-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v213) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x256 : Shape := ⟨2, ![10000, 256]⟩
abbrev S2x160000 : Shape := ⟨2, ![2, 160000]⟩
abbrev S256x1024 : Shape := ⟨2, ![256, 1024]⟩
abbrev S4x256 : Shape := ⟨2, ![4, 256]⟩
abbrev S256 : Shape := ⟨1, ![256]⟩
abbrev S1x160000 : Shape := ⟨2, ![1, 160000]⟩
abbrev S160000 : Shape := ⟨1, ![160000]⟩
abbrev S_ : Shape := ⟨0, ![]⟩
abbrev S1024x8 : Shape := ⟨2, ![1024, 8]⟩
abbrev S4 : Shape := ⟨1, ![4]⟩
abbrev S4x1 : Shape := ⟨2, ![4, 1]⟩
abbrev S1x256 : Shape := ⟨2, ![1, 256]⟩
abbrev S1024 : Shape := ⟨1, ![1024]⟩
abbrev S1024x1 : Shape := ⟨2, ![1024, 1]⟩
abbrev S1024x2 : Shape := ⟨2, ![1024, 2]⟩
abbrev S10000x1024 : Shape := ⟨2, ![10000, 1024]⟩
abbrev S10000x8 : Shape := ⟨2, ![10000, 8]⟩
abbrev S1000x256 : Shape := ⟨2, ![1000, 256]⟩
abbrev S1000x1024 : Shape := ⟨2, ![1000, 1024]⟩
abbrev S1000x8 : Shape := ⟨2, ![1000, 8]⟩
abbrev S160000x1 : Shape := ⟨2, ![160000, 1]⟩
abbrev S160000x2 : Shape := ⟨2, ![160000, 2]⟩
abbrev S160000x4 : Shape := ⟨2, ![160000, 4]⟩
abbrev S10000x4 : Shape := ⟨2, ![10000, 4]⟩
abbrev S10000x4x256 : Shape := ⟨3, ![10000, 4, 256]⟩
abbrev S160000x4x256 : Shape := ⟨3, ![160000, 4, 256]⟩
abbrev S160000x4x1 : Shape := ⟨3, ![160000, 4, 1]⟩

abbrev nBuf : Space → Nat
  | .hbm => 286
  | .vmem => 28
  | .smem => 0
  | _ => 0

abbrev hbmTy0_0 (i : Nat) : BufTy := match i % 128 with
  | 0 => ⟨S10000x256, .f32⟩
  | 1 => ⟨S2x160000, .i32⟩
  | 2 => ⟨S256x1024, .f32⟩
  | 3 => ⟨S4x256, .f32⟩
  | 4 => ⟨S4x256, .f32⟩
  | 5 => ⟨S256, .f32⟩
  | 6 => ⟨S256, .f32⟩
  | 7 => ⟨S256, .f32⟩
  | 8 => ⟨S256x1024, .f32⟩
  | 9 => ⟨S4x256, .f32⟩
  | 10 => ⟨S4x256, .f32⟩
  | 11 => ⟨S256, .f32⟩
  | 12 => ⟨S256, .f32⟩
  | 13 => ⟨S256, .f32⟩
  | 14 => ⟨S1x160000, .i32⟩
  | 15 => ⟨S160000, .i32⟩
  | 16 => ⟨S1x160000, .i32⟩
  | 17 => ⟨S160000, .i32⟩
  | 18 => ⟨S_, .f32⟩
  | 19 => ⟨S1024x8, .f32⟩
  | 20 => ⟨S4, .i32⟩
  | 21 => ⟨S4x1, .i32⟩
  | 22 => ⟨S_, .i32⟩
  | 23 => ⟨S4x1, .i32⟩
  | 24 => ⟨S4x1, .i32⟩
  | 25 => ⟨S256, .i32⟩
  | 26 => ⟨S1x256, .i32⟩
  | 27 => ⟨S4x256, .i32⟩
  | 28 => ⟨S4x256, .i32⟩
  | 29 => ⟨S4x256, .i32⟩
  | 30 => ⟨S1024, .i32⟩
  | 31 => ⟨S4x256, .i32⟩
  | 32 => ⟨S1024, .i32⟩
  | 33 => ⟨S1024, .f32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S_, .i32⟩
  | 45 => ⟨S1024, .i32⟩
  | 46 => ⟨S1024, .i32⟩
  | 47 => ⟨S1024, .i32⟩
  | 48 => ⟨S1024x1, .i32⟩
  | 49 => ⟨S1024x1, .i32⟩
  | 50 => ⟨S1024x2, .i32⟩
  | 51 => ⟨S1024x8, .f32⟩
  | 52 => ⟨S_, .i32⟩
  | 53 => ⟨S1024, .i32⟩
  | 54 => ⟨S1024, .i32⟩
  | 55 => ⟨S1024, .f32⟩
  | 56 => ⟨S_, .i32⟩
  | 57 => ⟨S1024, .i32⟩
  | 58 => ⟨S1024, .i1⟩
  | 59 => ⟨S_, .i32⟩
  | 60 => ⟨S1024, .i32⟩
  | 61 => ⟨S1024, .i32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S1024x1, .i32⟩
  | 71 => ⟨S1024x1, .i32⟩
  | 72 => ⟨S1024x2, .i32⟩
  | 73 => ⟨S1024x8, .f32⟩
  | 74 => ⟨S10000x1024, .f32⟩
  | 75 => ⟨S10000x8, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S_, .i32⟩
  | 85 => ⟨S160000x1, .i32⟩
  | 86 => ⟨S160000x2, .i32⟩
  | 87 => ⟨S160000x4, .f32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S_, .i32⟩
  | 97 => ⟨S160000x1, .i32⟩
  | 98 => ⟨S160000x2, .i32⟩
  | 99 => ⟨S160000x4, .f32⟩
  | 100 => ⟨S160000x4, .f32⟩
  | 101 => ⟨S_, .f32⟩
  | 102 => ⟨S160000x4, .f32⟩
  | 103 => ⟨S160000x4, .i1⟩
  | 104 => ⟨S_, .f32⟩
  | 105 => ⟨S160000x4, .f32⟩
  | 106 => ⟨S160000x4, .f32⟩
  | 107 => ⟨S160000x4, .f32⟩
  | 108 => ⟨S160000x4, .f32⟩
  | 109 => ⟨S_, .f32⟩
  | 110 => ⟨S10000x4, .f32⟩
  | 111 => ⟨S160000x1, .i32⟩
  | 112 => ⟨S10000x4, .f32⟩
  | 113 => ⟨S_, .i32⟩
  | 114 => ⟨S160000, .i32⟩
  | 115 => ⟨S160000, .i1⟩
  | 116 => ⟨S_, .i32⟩
  | 117 => ⟨S160000, .i32⟩
  | 118 => ⟨S160000, .i32⟩
  | 119 => ⟨S160000, .i32⟩
  | 120 => ⟨S160000x1, .i32⟩
  | 121 => ⟨S160000x4, .f32⟩
  | 122 => ⟨S_, .f32⟩
  | 123 => ⟨S160000x4, .f32⟩
  | 124 => ⟨S160000x4, .f32⟩
  | 125 => ⟨S160000x4, .f32⟩
  | 126 => ⟨S10000x4x256, .f32⟩
  | 127 => ⟨S_, .i32⟩
  | _ => ⟨S10000x256, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x4x256, .f32⟩
  | 8 => ⟨S160000x4x1, .f32⟩
  | 9 => ⟨S160000x4x256, .f32⟩
  | 10 => ⟨S160000x4x256, .f32⟩
  | 11 => ⟨S_, .f32⟩
  | 12 => ⟨S10000x4x256, .f32⟩
  | 13 => ⟨S160000x1, .i32⟩
  | 14 => ⟨S10000x4x256, .f32⟩
  | 15 => ⟨S_, .f32⟩
  | 16 => ⟨S10000x256, .f32⟩
  | 17 => ⟨S_, .f32⟩
  | 18 => ⟨S10000x256, .f32⟩
  | 19 => ⟨S10000x256, .f32⟩
  | 20 => ⟨S1x256, .f32⟩
  | 21 => ⟨S1x256, .f32⟩
  | 22 => ⟨S1x256, .f32⟩
  | 23 => ⟨S10000x256, .f32⟩
  | 24 => ⟨S_, .f32⟩
  | 25 => ⟨S1024x8, .f32⟩
  | 26 => ⟨S4, .i32⟩
  | 27 => ⟨S4x1, .i32⟩
  | 28 => ⟨S_, .i32⟩
  | 29 => ⟨S4x1, .i32⟩
  | 30 => ⟨S4x1, .i32⟩
  | 31 => ⟨S256, .i32⟩
  | 32 => ⟨S1x256, .i32⟩
  | 33 => ⟨S4x256, .i32⟩
  | 34 => ⟨S4x256, .i32⟩
  | 35 => ⟨S4x256, .i32⟩
  | 36 => ⟨S1024, .i32⟩
  | 37 => ⟨S4x256, .i32⟩
  | 38 => ⟨S1024, .i32⟩
  | 39 => ⟨S1024, .f32⟩
  | 40 => ⟨S_, .i32⟩
  | 41 => ⟨S1024, .i32⟩
  | 42 => ⟨S1024, .i1⟩
  | 43 => ⟨S_, .i32⟩
  | 44 => ⟨S1024, .i32⟩
  | 45 => ⟨S1024, .i32⟩
  | 46 => ⟨S1024, .i32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S1024x1, .i32⟩
  | 56 => ⟨S1024x2, .i32⟩
  | 57 => ⟨S1024x8, .f32⟩
  | 58 => ⟨S_, .i32⟩
  | 59 => ⟨S1024, .i32⟩
  | 60 => ⟨S1024, .i32⟩
  | 61 => ⟨S1024, .f32⟩
  | 62 => ⟨S_, .i32⟩
  | 63 => ⟨S1024, .i32⟩
  | 64 => ⟨S1024, .i1⟩
  | 65 => ⟨S_, .i32⟩
  | 66 => ⟨S1024, .i32⟩
  | 67 => ⟨S1024, .i32⟩
  | 68 => ⟨S1024, .i32⟩
  | 69 => ⟨S_, .i32⟩
  | 70 => ⟨S1024, .i32⟩
  | 71 => ⟨S1024, .i1⟩
  | 72 => ⟨S_, .i32⟩
  | 73 => ⟨S1024, .i32⟩
  | 74 => ⟨S1024, .i32⟩
  | 75 => ⟨S1024, .i32⟩
  | 76 => ⟨S1024x1, .i32⟩
  | 77 => ⟨S1024x1, .i32⟩
  | 78 => ⟨S1024x2, .i32⟩
  | 79 => ⟨S1024x8, .f32⟩
  | 80 => ⟨S10000x1024, .f32⟩
  | 81 => ⟨S10000x8, .f32⟩
  | 82 => ⟨S_, .i32⟩
  | 83 => ⟨S160000, .i32⟩
  | 84 => ⟨S160000, .i1⟩
  | 85 => ⟨S_, .i32⟩
  | 86 => ⟨S160000, .i32⟩
  | 87 => ⟨S160000, .i32⟩
  | 88 => ⟨S160000, .i32⟩
  | 89 => ⟨S160000x1, .i32⟩
  | 90 => ⟨S_, .i32⟩
  | 91 => ⟨S160000x1, .i32⟩
  | 92 => ⟨S160000x2, .i32⟩
  | 93 => ⟨S160000x4, .f32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S_, .i32⟩
  | 103 => ⟨S160000x1, .i32⟩
  | 104 => ⟨S160000x2, .i32⟩
  | 105 => ⟨S160000x4, .f32⟩
  | 106 => ⟨S160000x4, .f32⟩
  | 107 => ⟨S_, .f32⟩
  | 108 => ⟨S160000x4, .f32⟩
  | 109 => ⟨S160000x4, .i1⟩
  | 110 => ⟨S_, .f32⟩
  | 111 => ⟨S160000x4, .f32⟩
  | 112 => ⟨S160000x4, .f32⟩
  | 113 => ⟨S160000x4, .f32⟩
  | 114 => ⟨S160000x4, .f32⟩
  | 115 => ⟨S_, .f32⟩
  | 116 => ⟨S10000x4, .f32⟩
  | 117 => ⟨S160000x1, .i32⟩
  | 118 => ⟨S10000x4, .f32⟩
  | 119 => ⟨S_, .i32⟩
  | 120 => ⟨S160000, .i32⟩
  | 121 => ⟨S160000, .i1⟩
  | 122 => ⟨S_, .i32⟩
  | 123 => ⟨S160000, .i32⟩
  | 124 => ⟨S160000, .i32⟩
  | 125 => ⟨S160000, .i32⟩
  | 126 => ⟨S160000x1, .i32⟩
  | 127 => ⟨S160000x4, .f32⟩
  | _ => ⟨S10000x256, .f32⟩

abbrev hbmTy0_2 (i : Nat) : BufTy := match i % 128 with
  | 0 => ⟨S_, .f32⟩
  | 1 => ⟨S160000x4, .f32⟩
  | 2 => ⟨S160000x4, .f32⟩
  | 3 => ⟨S160000x4, .f32⟩
  | 4 => ⟨S10000x4x256, .f32⟩
  | 5 => ⟨S_, .i32⟩
  | 6 => ⟨S160000, .i32⟩
  | 7 => ⟨S160000, .i1⟩
  | 8 => ⟨S_, .i32⟩
  | 9 => ⟨S160000, .i32⟩
  | 10 => ⟨S160000, .i32⟩
  | 11 => ⟨S160000, .i32⟩
  | 12 => ⟨S160000x1, .i32⟩
  | 13 => ⟨S160000x4x256, .f32⟩
  | 14 => ⟨S160000x4x1, .f32⟩
  | 15 => ⟨S160000x4x256, .f32⟩
  | 16 => ⟨S160000x4x256, .f32⟩
  | 17 => ⟨S_, .f32⟩
  | 18 => ⟨S10000x4x256, .f32⟩
  | 19 => ⟨S160000x1, .i32⟩
  | 20 => ⟨S10000x4x256, .f32⟩
  | 21 => ⟨S_, .f32⟩
  | 22 => ⟨S10000x256, .f32⟩
  | 23 => ⟨S_, .f32⟩
  | 24 => ⟨S10000x256, .f32⟩
  | 25 => ⟨S10000x256, .f32⟩
  | 26 => ⟨S1x256, .f32⟩
  | 27 => ⟨S1x256, .f32⟩
  | 28 => ⟨S1x256, .f32⟩
  | 29 => ⟨S10000x256, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x1024, .f32⟩
  | .local _ .vmem, ⟨3, _⟩ => ⟨S1024x8, .f32⟩
  | .local _ .vmem, ⟨4, _⟩ => ⟨S1000x1024, .f32⟩
  | .local _ .vmem, ⟨5, _⟩ => ⟨S1000x1024, .f32⟩
  | .local _ .vmem, ⟨6, _⟩ => ⟨S1000x8, .f32⟩
  | .local _ .vmem, ⟨7, _⟩ => ⟨S1000x8, .f32⟩
  | .local _ .vmem, ⟨8, _⟩ => ⟨S10000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S10000x256, .f32⟩
  | .local _ .vmem, ⟨13, _⟩ => ⟨S10000x256, .f32⟩
  | .local _ .vmem, ⟨14, _⟩ => ⟨S1000x256, .f32⟩
  | .local _ .vmem, ⟨15, _⟩ => ⟨S1000x256, .f32⟩
  | .local _ .vmem, ⟨16, _⟩ => ⟨S256x1024, .f32⟩
  | .local _ .vmem, ⟨17, _⟩ => ⟨S1024x8, .f32⟩
  | .local _ .vmem, ⟨18, _⟩ => ⟨S1000x1024, .f32⟩
  | .local _ .vmem, ⟨19, _⟩ => ⟨S1000x1024, .f32⟩
  | .local _ .vmem, ⟨20, _⟩ => ⟨S1000x8, .f32⟩
  | .local _ .vmem, ⟨21, _⟩ => ⟨S1000x8, .f32⟩
  | .local _ .vmem, ⟨22, _⟩ => ⟨S10000x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S10000x256, .f32⟩
  | .local _ .vmem, ⟨27, _⟩ => ⟨S10000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_0 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_17 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_18 : Ref sig .tc := ⟨.hbm, 113, rfl⟩
abbrev main_v78 : Ref sig .tc := ⟨.hbm, 114, rfl⟩
abbrev main_v79 : Ref sig .tc := ⟨.hbm, 115, rfl⟩
abbrev main_c_19 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_20 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_21 : Ref sig .tc := ⟨.hbm, 127, rfl⟩
abbrev main_v89 : Ref sig .tc := ⟨.hbm, 128, rfl⟩
abbrev main_v90 : Ref sig .tc := ⟨.hbm, 129, rfl⟩
abbrev main_c_22 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_23 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_24 : Ref sig .tc := ⟨.hbm, 143, rfl⟩
abbrev main_v102 : Ref sig .tc := ⟨.hbm, 144, rfl⟩
abbrev main_cst_25 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_26 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c_27 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_c_28 : Ref sig .tc := ⟨.hbm, 168, rfl⟩
abbrev main_v123 : Ref sig .tc := ⟨.hbm, 169, rfl⟩
abbrev main_v124 : Ref sig .tc := ⟨.hbm, 170, rfl⟩
abbrev main_c_29 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_30 : Ref sig .tc := ⟨.hbm, 175, rfl⟩
abbrev main_v128 : Ref sig .tc := ⟨.hbm, 176, rfl⟩
abbrev main_v129 : Ref sig .tc := ⟨.hbm, 177, rfl⟩
abbrev main_c_31 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_c_32 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_c_33 : Ref sig .tc := ⟨.hbm, 190, rfl⟩
abbrev main_v140 : Ref sig .tc := ⟨.hbm, 191, rfl⟩
abbrev main_v141 : Ref sig .tc := ⟨.hbm, 192, rfl⟩
abbrev main_c_34 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_c_35 : Ref sig .tc := ⟨.hbm, 197, rfl⟩
abbrev main_v145 : Ref sig .tc := ⟨.hbm, 198, rfl⟩
abbrev main_v146 : Ref sig .tc := ⟨.hbm, 199, rfl⟩
abbrev main_c_36 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154_0 : Ref sig .tc := ⟨.hbm, 208, rfl⟩
abbrev main_v154_1 : Ref sig .tc := ⟨.hbm, 209, rfl⟩
abbrev main_c_37 : Ref sig .tc := ⟨.hbm, 210, rfl⟩
abbrev main_v155 : Ref sig .tc := ⟨.hbm, 211, rfl⟩
abbrev main_v156 : Ref sig .tc := ⟨.hbm, 212, rfl⟩
abbrev main_c_38 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_c_39 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_40 : Ref sig .tc := ⟨.hbm, 222, rfl⟩
abbrev main_v164 : Ref sig .tc := ⟨.hbm, 223, rfl⟩
abbrev main_v165 : Ref sig .tc := ⟨.hbm, 224, rfl⟩
abbrev main_c_41 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_c_42 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_43 : Ref sig .tc := ⟨.hbm, 235, rfl⟩
abbrev main_v174 : Ref sig .tc := ⟨.hbm, 236, rfl⟩
abbrev main_v175 : Ref sig .tc := ⟨.hbm, 237, rfl⟩
abbrev main_cst_44 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_cst_45 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_46 : Ref sig .tc := ⟨.hbm, 247, rfl⟩
abbrev main_v183 : Ref sig .tc := ⟨.hbm, 248, rfl⟩
abbrev main_v184 : Ref sig .tc := ⟨.hbm, 249, rfl⟩
abbrev main_c_47 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_cst_48 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_c_49 : Ref sig .tc := ⟨.hbm, 261, rfl⟩
abbrev main_v194 : Ref sig .tc := ⟨.hbm, 262, rfl⟩
abbrev main_v195 : Ref sig .tc := ⟨.hbm, 263, rfl⟩
abbrev main_c_50 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_cst_51 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_cst_52 : Ref sig .tc := ⟨.hbm, 277, rfl⟩
abbrev main_v207 : Ref sig .tc := ⟨.hbm, 278, rfl⟩
abbrev main_cst_53 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S10000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S10000x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := .none

abbrev stage3_0 : Fin 1 → Memref sig .tc .vmem S10000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S10000x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S10000x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S256x1024 : Shape := ⟨2, ![256, 1024]⟩
abbrev S4x256 : Shape := ⟨2, ![4, 256]⟩
abbrev S256 : Shape := ⟨1, ![256]⟩
abbrev S1x160000 : Shape := ⟨2, ![1, 160000]⟩
abbrev S160000 : Shape := ⟨1, ![160000]⟩
abbrev S10000x1024 : Shape := ⟨2, ![10000, 1024]⟩
abbrev S10000x4x256 : Shape := ⟨3, ![10000, 4, 256]⟩
abbrev S1x4x256 : Shape := ⟨3, ![1, 4, 256]⟩
abbrev S_ : Shape := ⟨0, ![]⟩
abbrev S10000x4 : Shape := ⟨2, ![10000, 4]⟩
abbrev S160000x1 : Shape := ⟨2, ![160000, 1]⟩
abbrev S160000x4 : Shape := ⟨2, ![160000, 4]⟩
abbrev S1x160000x1 : Shape := ⟨3, ![1, 160000, 1]⟩
abbrev S10000 : Shape := ⟨1, ![10000]⟩
abbrev S10000x1x1 : Shape := ⟨3, ![10000, 1, 1]⟩
abbrev S10000x160000x1 : Shape := ⟨3, ![10000, 160000, 1]⟩
abbrev S1x160000x4 : Shape := ⟨3, ![1, 160000, 4]⟩
abbrev S10000x160000x4 : Shape := ⟨3, ![10000, 160000, 4]⟩
abbrev S160000x4x256 : Shape := ⟨3, ![160000, 4, 256]⟩
abbrev S160000x4x1 : Shape := ⟨3, ![160000, 4, 1]⟩
abbrev S1x256 : Shape := ⟨2, ![1, 256]⟩

abbrev nBuf : Space → Nat
  | .hbm => 366
  | .vmem => 0
  | .smem => 0
  | _ => 0

abbrev hbmTy0_0 (i : Nat) : BufTy := match i % 128 with
  | 0 => ⟨S10000x256, .f32⟩
  | 1 => ⟨S2x160000, .i32⟩
  | 2 => ⟨S256x1024, .f32⟩
  | 3 => ⟨S4x256, .f32⟩
  | 4 => ⟨S4x256, .f32⟩
  | 5 => ⟨S256, .f32⟩
  | 6 => ⟨S256, .f32⟩
  | 7 => ⟨S256, .f32⟩
  | 8 => ⟨S256x1024, .f32⟩
  | 9 => ⟨S4x256, .f32⟩
  | 10 => ⟨S4x256, .f32⟩
  | 11 => ⟨S256, .f32⟩
  | 12 => ⟨S256, .f32⟩
  | 13 => ⟨S256, .f32⟩
  | 14 => ⟨S1x160000, .i32⟩
  | 15 => ⟨S160000, .i32⟩
  | 16 => ⟨S1x160000, .i32⟩
  | 17 => ⟨S160000, .i32⟩
  | 18 => ⟨S10000x1024, .f32⟩
  | 19 => ⟨S10000x4x256, .f32⟩
  | 20 => ⟨S1x4x256, .f32⟩
  | 21 => ⟨S10000x4x256, .f32⟩
  | 22 => ⟨S10000x4x256, .f32⟩
  | 23 => ⟨S_, .f32⟩
  | 24 => ⟨S10000x4, .f32⟩
  | 25 => ⟨S1x4x256, .f32⟩
  | 26 => ⟨S10000x4x256, .f32⟩
  | 27 => ⟨S10000x4x256, .f32⟩
  | 28 => ⟨S_, .f32⟩
  | 29 => ⟨S10000x4, .f32⟩
  | 30 => ⟨S_, .i32⟩
  | 31 => ⟨S160000, .i32⟩
  | 32 => ⟨S160000, .i1⟩
  | 33 => ⟨S_, .i32⟩
  | 34 => ⟨S160000, .i32⟩
  | 35 => ⟨S160000, .i32⟩
  | 36 => ⟨S160000, .i32⟩
  | 37 => ⟨S160000x1, .i32⟩
  | 38 => ⟨S160000x4, .f32⟩
  | 39 => ⟨S_, .i32⟩
  | 40 => ⟨S160000, .i32⟩
  | 41 => ⟨S160000, .i1⟩
  | 42 => ⟨S_, .i32⟩
  | 43 => ⟨S160000, .i32⟩
  | 44 => ⟨S160000, .i32⟩
  | 45 => ⟨S160000, .i32⟩
  | 46 => ⟨S160000x1, .i32⟩
  | 47 => ⟨S160000x4, .f32⟩
  | 48 => ⟨S160000x4, .f32⟩
  | 49 => ⟨S_, .f32⟩
  | 50 => ⟨S_, .f32⟩
  | 51 => ⟨S160000x4, .f32⟩
  | 52 => ⟨S160000x4, .i1⟩
  | 53 => ⟨S_, .f32⟩
  | 54 => ⟨S160000x4, .f32⟩
  | 55 => ⟨S160000x4, .f32⟩
  | 56 => ⟨S160000x4, .f32⟩
  | 57 => ⟨S1x160000x1, .i32⟩
  | 58 => ⟨S10000, .i32⟩
  | 59 => ⟨S10000x1x1, .i32⟩
  | 60 => ⟨S10000x160000x1, .i32⟩
  | 61 => ⟨S10000x160000x1, .i32⟩
  | 62 => ⟨S10000x160000x1, .i1⟩
  | 63 => ⟨S1x160000x4, .f32⟩
  | 64 => ⟨S_, .f32⟩
  | 65 => ⟨S_, .f32⟩
  | 66 => ⟨S10000x160000x4, .i1⟩
  | 67 => ⟨S10000x160000x4, .f32⟩
  | 68 => ⟨S10000x160000x4, .f32⟩
  | 69 => ⟨S10000x160000x4, .f32⟩
  | 70 => ⟨S_, .f32⟩
  | 71 => ⟨S10000x4, .f32⟩
  | 72 => ⟨S10000x4, .f32⟩
  | 73 => ⟨S_, .f32⟩
  | 74 => ⟨S10000x4, .f32⟩
  | 75 => ⟨S10000x4, .i1⟩
  | 76 => ⟨S_, .f32⟩
  | 77 => ⟨S_, .f32⟩
  | 78 => ⟨S10000x4, .f32⟩
  | 79 => ⟨S10000x4, .f32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S160000x4, .f32⟩
  | 89 => ⟨S160000x4, .f32⟩
  | 90 => ⟨S160000x4, .f32⟩
  | 91 => ⟨S_, .f32⟩
  | 92 => ⟨S10000x4, .f32⟩
  | 93 => ⟨S160000x1, .i32⟩
  | 94 => ⟨S10000x4, .f32⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x4, .f32⟩
  | 104 => ⟨S_, .i32⟩
  | 105 => ⟨S160000, .i32⟩
  | 106 => ⟨S160000, .i1⟩
  | 107 => ⟨S_, .i32⟩
  | 108 => ⟨S160000, .i32⟩
  | 109 => ⟨S160000, .i32⟩
  | 110 => ⟨S160000, .i32⟩
  | 111 => ⟨S160000x1, .i32⟩
  | 112 => ⟨S160000x4, .f32⟩
  | 113 => ⟨S160000x4, .f32⟩
  | 114 => ⟨S160000x4, .f32⟩
  | 115 => ⟨S_, .f32⟩
  | 116 => ⟨S160000x4, .f32⟩
  | 117 => ⟨S160000x4, .f32⟩
  | 118 => ⟨S160000x4, .f32⟩
  | 119 => ⟨S160000x4, .f32⟩
  | 120 => ⟨S_, .i32⟩
  | 121 => ⟨S160000, .i32⟩
  | 122 => ⟨S160000, .i1⟩
  | 123 => ⟨S_, .i32⟩
  | 124 => ⟨S160000, .i32⟩
  | 125 => ⟨S160000, .i32⟩
  | 126 => ⟨S160000, .i32⟩
  | 127 => ⟨S160000x1, .i32⟩
  | _ => ⟨S10000x256, .f32⟩

abbrev hbmTy0_1 (i : Nat) : BufTy := match i % 128 with
  | 0 => ⟨S160000x4x256, .f32⟩
  | 1 => ⟨S160000x4x1, .f32⟩
  | 2 => ⟨S160000x4x256, .f32⟩
  | 3 => ⟨S160000x4x256, .f32⟩
  | 4 => ⟨S_, .f32⟩
  | 5 => ⟨S10000x4x256, .f32⟩
  | 6 => ⟨S160000x1, .i32⟩
  | 7 => ⟨S10000x4x256, .f32⟩
  | 8 => ⟨S_, .f32⟩
  | 9 => ⟨S10000x256, .f32⟩
  | 10 => ⟨S_, .f32⟩
  | 11 => ⟨S10000x256, .f32⟩
  | 12 => ⟨S10000x256, .f32⟩
  | 13 => ⟨S1x256, .f32⟩
  | 14 => ⟨S10000x256, .f32⟩
  | 15 => ⟨S10000x256, .f32⟩
  | 16 => ⟨S_, .f32⟩
  | 17 => ⟨S256, .f32⟩
  | 18 => ⟨S_, .f32⟩
  | 19 => ⟨S256, .f32⟩
  | 20 => ⟨S256, .f32⟩
  | 21 => ⟨S_, .i32⟩
  | 22 => ⟨S_, .f32⟩
  | 23 => ⟨S256, .f32⟩
  | 24 => ⟨S1x256, .f32⟩
  | 25 => ⟨S_, .f32⟩
  | 26 => ⟨S1x256, .f32⟩
  | 27 => ⟨S1x256, .f32⟩
  | 28 => ⟨S10000x256, .f32⟩
  | 29 => ⟨S10000x256, .f32⟩
  | 30 => ⟨S10000x256, .f32⟩
  | 31 => ⟨S_, .f32⟩
  | 32 => ⟨S_, .f32⟩
  | 33 => ⟨S_, .f32⟩
  | 34 => ⟨S_, .f32⟩
  | 35 => ⟨S256, .f32⟩
  | 36 => ⟨S256, .f32⟩
  | 37 => ⟨S256, .f32⟩
  | 38 => ⟨S_, .f32⟩
  | 39 => ⟨S_, .i1⟩
  | 40 => ⟨S_, .f32⟩
  | 41 => ⟨S_, .f32⟩
  | 42 => ⟨S256, .f32⟩
  | 43 => ⟨S256, .f32⟩
  | 44 => ⟨S1x256, .f32⟩
  | 45 => ⟨S10000x256, .f32⟩
  | 46 => ⟨S10000x256, .f32⟩
  | 47 => ⟨S1x256, .f32⟩
  | 48 => ⟨S10000x256, .f32⟩
  | 49 => ⟨S10000x256, .f32⟩
  | 50 => ⟨S_, .f32⟩
  | 51 => ⟨S256, .f32⟩
  | 52 => ⟨S256, .f32⟩
  | 53 => ⟨S256, .f32⟩
  | 54 => ⟨S1x256, .f32⟩
  | 55 => ⟨S10000x256, .f32⟩
  | 56 => ⟨S10000x256, .f32⟩
  | 57 => ⟨S1x256, .f32⟩
  | 58 => ⟨S10000x256, .f32⟩
  | 59 => ⟨S10000x256, .f32⟩
  | 60 => ⟨S_, .f32⟩
  | 61 => ⟨S10000x256, .f32⟩
  | 62 => ⟨S10000x256, .f32⟩
  | 63 => ⟨S10000x256, .f32⟩
  | 64 => ⟨S10000x1024, .f32⟩
  | 65 => ⟨S10000x4x256, .f32⟩
  | 66 => ⟨S1x4x256, .f32⟩
  | 67 => ⟨S10000x4x256, .f32⟩
  | 68 => ⟨S10000x4x256, .f32⟩
  | 69 => ⟨S_, .f32⟩
  | 70 => ⟨S10000x4, .f32⟩
  | 71 => ⟨S1x4x256, .f32⟩
  | 72 => ⟨S10000x4x256, .f32⟩
  | 73 => ⟨S10000x4x256, .f32⟩
  | 74 => ⟨S_, .f32⟩
  | 75 => ⟨S10000x4, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S160000x4, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S160000x4, .f32⟩
  | 94 => ⟨S160000x4, .f32⟩
  | 95 => ⟨S_, .f32⟩
  | 96 => ⟨S_, .f32⟩
  | 97 => ⟨S160000x4, .f32⟩
  | 98 => ⟨S160000x4, .i1⟩
  | 99 => ⟨S_, .f32⟩
  | 100 => ⟨S160000x4, .f32⟩
  | 101 => ⟨S160000x4, .f32⟩
  | 102 => ⟨S160000x4, .f32⟩
  | 103 => ⟨S1x160000x1, .i32⟩
  | 104 => ⟨S10000, .i32⟩
  | 105 => ⟨S10000x1x1, .i32⟩
  | 106 => ⟨S10000x160000x1, .i32⟩
  | 107 => ⟨S10000x160000x1, .i32⟩
  | 108 => ⟨S10000x160000x1, .i1⟩
  | 109 => ⟨S1x160000x4, .f32⟩
  | 110 => ⟨S_, .f32⟩
  | 111 => ⟨S_, .f32⟩
  | 112 => ⟨S10000x160000x4, .i1⟩
  | 113 => ⟨S10000x160000x4, .f32⟩
  | 114 => ⟨S10000x160000x4, .f32⟩
  | 115 => ⟨S10000x160000x4, .f32⟩
  | 116 => ⟨S_, .f32⟩
  | 117 => ⟨S10000x4, .f32⟩
  | 118 => ⟨S10000x4, .f32⟩
  | 119 => ⟨S_, .f32⟩
  | 120 => ⟨S10000x4, .f32⟩
  | 121 => ⟨S10000x4, .i1⟩
  | 122 => ⟨S_, .f32⟩
  | 123 => ⟨S_, .f32⟩
  | 124 => ⟨S10000x4, .f32⟩
  | 125 => ⟨S10000x4, .f32⟩
  | 126 => ⟨S_, .i32⟩
  | 127 => ⟨S160000, .i32⟩
  | _ => ⟨S10000x256, .f32⟩

abbrev hbmTy0_2 (i : Nat) : BufTy := match i % 128 with
  | 0 => ⟨S160000, .i1⟩
  | 1 => ⟨S_, .i32⟩
  | 2 => ⟨S160000, .i32⟩
  | 3 => ⟨S160000, .i32⟩
  | 4 => ⟨S160000, .i32⟩
  | 5 => ⟨S160000x1, .i32⟩
  | 6 => ⟨S160000x4, .f32⟩
  | 7 => ⟨S160000x4, .f32⟩
  | 8 => ⟨S160000x4, .f32⟩
  | 9 => ⟨S_, .f32⟩
  | 10 => ⟨S10000x4, .f32⟩
  | 11 => ⟨S160000x1, .i32⟩
  | 12 => ⟨S10000x4, .f32⟩
  | 13 => ⟨S_, .i32⟩
  | 14 => ⟨S160000, .i32⟩
  | 15 => ⟨S160000, .i1⟩
  | 16 => ⟨S_, .i32⟩
  | 17 => ⟨S160000, .i32⟩
  | 18 => ⟨S160000, .i32⟩
  | 19 => ⟨S160000, .i32⟩
  | 20 => ⟨S160000x1, .i32⟩
  | 21 => ⟨S160000x4, .f32⟩
  | 22 => ⟨S_, .i32⟩
  | 23 => ⟨S160000, .i32⟩
  | 24 => ⟨S160000, .i1⟩
  | 25 => ⟨S_, .i32⟩
  | 26 => ⟨S160000, .i32⟩
  | 27 => ⟨S160000, .i32⟩
  | 28 => ⟨S160000, .i32⟩
  | 29 => ⟨S160000x1, .i32⟩
  | 30 => ⟨S160000x4, .f32⟩
  | 31 => ⟨S160000x4, .f32⟩
  | 32 => ⟨S160000x4, .f32⟩
  | 33 => ⟨S_, .f32⟩
  | 34 => ⟨S160000x4, .f32⟩
  | 35 => ⟨S160000x4, .f32⟩
  | 36 => ⟨S160000x4, .f32⟩
  | 37 => ⟨S160000x4, .f32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S160000x4x256, .f32⟩
  | 47 => ⟨S160000x4x1, .f32⟩
  | 48 => ⟨S160000x4x256, .f32⟩
  | 49 => ⟨S160000x4x256, .f32⟩
  | 50 => ⟨S_, .f32⟩
  | 51 => ⟨S10000x4x256, .f32⟩
  | 52 => ⟨S160000x1, .i32⟩
  | 53 => ⟨S10000x4x256, .f32⟩
  | 54 => ⟨S_, .f32⟩
  | 55 => ⟨S10000x256, .f32⟩
  | 56 => ⟨S_, .f32⟩
  | 57 => ⟨S10000x256, .f32⟩
  | 58 => ⟨S10000x256, .f32⟩
  | 59 => ⟨S1x256, .f32⟩
  | 60 => ⟨S10000x256, .f32⟩
  | 61 => ⟨S10000x256, .f32⟩
  | 62 => ⟨S_, .f32⟩
  | 63 => ⟨S256, .f32⟩
  | 64 => ⟨S_, .f32⟩
  | 65 => ⟨S256, .f32⟩
  | 66 => ⟨S256, .f32⟩
  | 67 => ⟨S_, .i32⟩
  | 68 => ⟨S_, .f32⟩
  | 69 => ⟨S256, .f32⟩
  | 70 => ⟨S1x256, .f32⟩
  | 71 => ⟨S_, .f32⟩
  | 72 => ⟨S1x256, .f32⟩
  | 73 => ⟨S1x256, .f32⟩
  | 74 => ⟨S10000x256, .f32⟩
  | 75 => ⟨S10000x256, .f32⟩
  | 76 => ⟨S10000x256, .f32⟩
  | 77 => ⟨S_, .f32⟩
  | 78 => ⟨S_, .f32⟩
  | 79 => ⟨S_, .f32⟩
  | 80 => ⟨S_, .f32⟩
  | 81 => ⟨S256, .f32⟩
  | 82 => ⟨S256, .f32⟩
  | 83 => ⟨S256, .f32⟩
  | 84 => ⟨S_, .f32⟩
  | 85 => ⟨S_, .i1⟩
  | 86 => ⟨S_, .f32⟩
  | 87 => ⟨S_, .f32⟩
  | 88 => ⟨S256, .f32⟩
  | 89 => ⟨S256, .f32⟩
  | 90 => ⟨S1x256, .f32⟩
  | 91 => ⟨S10000x256, .f32⟩
  | 92 => ⟨S10000x256, .f32⟩
  | 93 => ⟨S1x256, .f32⟩
  | 94 => ⟨S10000x256, .f32⟩
  | 95 => ⟨S10000x256, .f32⟩
  | 96 => ⟨S_, .f32⟩
  | 97 => ⟨S256, .f32⟩
  | 98 => ⟨S256, .f32⟩
  | 99 => ⟨S256, .f32⟩
  | 100 => ⟨S1x256, .f32⟩
  | 101 => ⟨S10000x256, .f32⟩
  | 102 => ⟨S10000x256, .f32⟩
  | 103 => ⟨S1x256, .f32⟩
  | 104 => ⟨S10000x256, .f32⟩
  | 105 => ⟨S10000x256, .f32⟩
  | 106 => ⟨S_, .f32⟩
  | 107 => ⟨S10000x256, .f32⟩
  | 108 => ⟨S10000x256, .f32⟩
  | 109 => ⟨S10000x256, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_v37 : Ref sig .tc := ⟨.hbm, 69, rfl⟩
abbrev main_cst_6 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_cst_8 : Ref sig .tc := ⟨.hbm, 76, rfl⟩
abbrev main_call2_v0 : Ref sig .tc := ⟨.hbm, 77, rfl⟩
abbrev main_call2_v1 : Ref sig .tc := ⟨.hbm, 78, rfl⟩
abbrev main_v42 : Ref sig .tc := ⟨.hbm, 79, rfl⟩
abbrev main_c_9 : Ref sig .tc := ⟨.hbm, 80, rfl⟩
abbrev main_v43 : Ref sig .tc := ⟨.hbm, 81, rfl⟩
abbrev main_v44 : Ref sig .tc := ⟨.hbm, 82, rfl⟩
abbrev main_c_10 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_11 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_c_12 : Ref sig .tc := ⟨.hbm, 95, rfl⟩
abbrev main_v55 : Ref sig .tc := ⟨.hbm, 96, rfl⟩
abbrev main_v56 : Ref sig .tc := ⟨.hbm, 97, rfl⟩
abbrev main_c_13 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_14 : Ref sig .tc := ⟨.hbm, 104, rfl⟩
abbrev main_v62 : Ref sig .tc := ⟨.hbm, 105, rfl⟩
abbrev main_v63 : Ref sig .tc := ⟨.hbm, 106, rfl⟩
abbrev main_c_15 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_17 : Ref sig .tc := ⟨.hbm, 120, rfl⟩
abbrev main_v75 : Ref sig .tc := ⟨.hbm, 121, rfl⟩
abbrev main_v76 : Ref sig .tc := ⟨.hbm, 122, rfl⟩
abbrev main_c_18 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_19 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_cst_21 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_22 : Ref sig .tc := ⟨.hbm, 144, rfl⟩
abbrev main_v94 : Ref sig .tc := ⟨.hbm, 145, rfl⟩
abbrev main_cst_23 : Ref sig .tc := ⟨.hbm, 146, rfl⟩
abbrev main_v95 : Ref sig .tc := ⟨.hbm, 147, rfl⟩
abbrev main_v96 : Ref sig .tc := ⟨.hbm, 148, rfl⟩
abbrev main_c_24 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_cst_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_cst_1 : Ref sig .tc := ⟨.hbm, 160, rfl⟩
abbrev main_call3_v8 : Ref sig .tc := ⟨.hbm, 161, rfl⟩
abbrev main_call3_cst_2 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_cst_3 : Ref sig .tc := ⟨.hbm, 166, rfl⟩
abbrev main_call3_v12 : Ref sig .tc := ⟨.hbm, 167, rfl⟩
abbrev main_call3_cst_4 : Ref sig .tc := ⟨.hbm, 168, rfl⟩
abbrev main_call3_call0_v0 : Ref sig .tc := ⟨.hbm, 169, rfl⟩
abbrev main_call3_call0_v1 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_25 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_call4_cst : Ref sig .tc := ⟨.hbm, 188, rfl⟩
abbrev main_call4_v0 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_cst_26 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_cst_27 : Ref sig .tc := ⟨.hbm, 202, rfl⟩
abbrev main_v124 : Ref sig .tc := ⟨.hbm, 203, rfl⟩
abbrev main_c_28 : Ref sig .tc := ⟨.hbm, 204, rfl⟩
abbrev main_v125 : Ref sig .tc := ⟨.hbm, 205, rfl⟩
abbrev main_v126 : Ref sig .tc := ⟨.hbm, 206, rfl⟩
abbrev main_c_29 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_c_30 : Ref sig .tc := ⟨.hbm, 213, rfl⟩
abbrev main_v132 : Ref sig .tc := ⟨.hbm, 214, rfl⟩
abbrev main_v133 : Ref sig .tc := ⟨.hbm, 215, rfl⟩
abbrev main_c_31 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_cst_32 : Ref sig .tc := ⟨.hbm, 223, rfl⟩
abbrev main_call5_cst : Ref sig .tc := ⟨.hbm, 224, rfl⟩
abbrev main_call5_v0 : Ref sig .tc := ⟨.hbm, 225, rfl⟩
abbrev main_call5_v1 : Ref sig .tc := ⟨.hbm, 226, rfl⟩
abbrev main_call5_v2 : Ref sig .tc := ⟨.hbm, 227, rfl⟩
abbrev main_call5_v3 : Ref sig .tc := ⟨.hbm, 228, rfl⟩
abbrev main_call5_v4 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_cst_33 : Ref sig .tc := ⟨.hbm, 238, rfl⟩
abbrev main_call6_v0 : Ref sig .tc := ⟨.hbm, 239, rfl⟩
abbrev main_call6_v1 : Ref sig .tc := ⟨.hbm, 240, rfl⟩
abbrev main_call6_v2 : Ref sig .tc := ⟨.hbm, 241, rfl⟩
abbrev main_call6_v3 : Ref sig .tc := ⟨.hbm, 242, rfl⟩
abbrev main_v148 : Ref sig .tc := ⟨.hbm, 243, rfl⟩
abbrev main_cst_34 : Ref sig .tc := ⟨.hbm, 244, rfl⟩
abbrev main_v149 : Ref sig .tc := ⟨.hbm, 245, rfl⟩
abbrev main_v150 : Ref sig .tc := ⟨.hbm, 246, rfl⟩
abbrev main_cst_35 : Ref sig .tc := ⟨.hbm, 247, rfl⟩
abbrev main_v151 : Ref sig .tc := ⟨.hbm, 248, rfl⟩
abbrev main_v152 : Ref sig .tc := ⟨.hbm, 249, rfl⟩
abbrev main_cst_36 : Ref sig .tc := ⟨.hbm, 250, rfl⟩
abbrev main_call7_v0 : Ref sig .tc := ⟨.hbm, 251, rfl⟩
abbrev main_call7_v1 : Ref sig .tc := ⟨.hbm, 252, rfl⟩
abbrev main_v153 : Ref sig .tc := ⟨.hbm, 253, rfl⟩
abbrev main_c_37 : Ref sig .tc := ⟨.hbm, 254, rfl⟩
abbrev main_v154 : Ref sig .tc := ⟨.hbm, 255, rfl⟩
abbrev main_v155 : Ref sig .tc := ⟨.hbm, 256, rfl⟩
abbrev main_c_38 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_cst_39 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_c_40 : Ref sig .tc := ⟨.hbm, 269, rfl⟩
abbrev main_v166 : Ref sig .tc := ⟨.hbm, 270, rfl⟩
abbrev main_v167 : Ref sig .tc := ⟨.hbm, 271, rfl⟩
abbrev main_c_41 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_c_42 : Ref sig .tc := ⟨.hbm, 278, rfl⟩
abbrev main_v173 : Ref sig .tc := ⟨.hbm, 279, rfl⟩
abbrev main_v174 : Ref sig .tc := ⟨.hbm, 280, rfl⟩
abbrev main_c_43 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_cst_44 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_c_45 : Ref sig .tc := ⟨.hbm, 294, rfl⟩
abbrev main_v186 : Ref sig .tc := ⟨.hbm, 295, rfl⟩
abbrev main_v187 : Ref sig .tc := ⟨.hbm, 296, rfl⟩
abbrev main_c_46 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_cst_47 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_cst_48 : Ref sig .tc := ⟨.hbm, 310, rfl⟩
abbrev main_v199 : Ref sig .tc := ⟨.hbm, 311, rfl⟩
abbrev main_cst_49 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_v203 : Ref sig .tc := ⟨.hbm, 316, rfl⟩
abbrev main_v204 : Ref sig .tc := ⟨.hbm, 317, rfl⟩
abbrev main_cst_50 : Ref sig .tc := ⟨.hbm, 318, rfl⟩
abbrev main_v205 : Ref sig .tc := ⟨.hbm, 319, rfl⟩
abbrev main_cst_51 : Ref sig .tc := ⟨.hbm, 320, rfl⟩
abbrev main_v206 : Ref sig .tc := ⟨.hbm, 321, rfl⟩
abbrev main_v207 : Ref sig .tc := ⟨.hbm, 322, rfl⟩
abbrev main_c_52 : Ref sig .tc := ⟨.hbm, 323, rfl⟩
abbrev main_call8_cst : Ref sig .tc := ⟨.hbm, 324, rfl⟩
abbrev main_call8_v0 : Ref sig .tc := ⟨.hbm, 325, rfl⟩
abbrev main_call8_v1 : Ref sig .tc := ⟨.hbm, 326, rfl⟩
abbrev main_call8_cst_0 : Ref sig .tc := ⟨.hbm, 327, rfl⟩
abbrev main_call8_v2 : Ref sig .tc := ⟨.hbm, 328, rfl⟩
abbrev main_call8_v3 : Ref sig .tc := ⟨.hbm, 329, rfl⟩
abbrev main_call8_v4 : Ref sig .tc := ⟨.hbm, 330, rfl⟩
abbrev main_call8_v5 : Ref sig .tc := ⟨.hbm, 331, rfl⟩
abbrev main_call8_v6 : Ref sig .tc := ⟨.hbm, 332, rfl⟩
abbrev main_call8_v7 : Ref sig .tc := ⟨.hbm, 333, rfl⟩
abbrev main_call8_cst_1 : Ref sig .tc := ⟨.hbm, 334, rfl⟩
abbrev main_call8_v8 : Ref sig .tc := ⟨.hbm, 335, rfl⟩
abbrev main_call8_cst_2 : Ref sig .tc := ⟨.hbm, 336, rfl⟩
abbrev main_call8_v9 : Ref sig .tc := ⟨.hbm, 337, rfl⟩
abbrev main_call8_v10 : Ref sig .tc := ⟨.hbm, 338, rfl⟩
abbrev main_call8_v11 : Ref sig .tc := ⟨.hbm, 339, rfl⟩
abbrev main_call8_cst_3 : Ref sig .tc := ⟨.hbm, 340, rfl⟩
abbrev main_call8_v12 : Ref sig .tc := ⟨.hbm, 341, rfl⟩
abbrev main_call8_cst_4 : Ref sig .tc := ⟨.hbm, 342, rfl⟩
abbrev main_call8_call0_v0 : Ref sig .tc := ⟨.hbm, 343, rfl⟩
abbrev main_call8_call0_v1 : Ref sig .tc := ⟨.hbm, 344, rfl⟩
abbrev main_v208 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_v212 : Ref sig .tc := ⟨.hbm, 349, rfl⟩
abbrev main_v213 : Ref sig .tc := ⟨.hbm, 350, rfl⟩
abbrev main_v214 : Ref sig .tc := ⟨.hbm, 351, rfl⟩
abbrev main_cst_53 : Ref sig .tc := ⟨.hbm, 352, rfl⟩
abbrev main_v215 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_v223 : Ref sig .tc := ⟨.hbm, 361, rfl⟩
abbrev main_call9_cst : Ref sig .tc := ⟨.hbm, 362, rfl⟩
abbrev main_call9_v0 : Ref sig .tc := ⟨.hbm, 363, rfl⟩
abbrev main_v224 : Ref sig .tc := ⟨.hbm, 364, rfl⟩
abbrev main_v225 : Ref sig .tc := ⟨.hbm, 365, rfl⟩

abbrev nD : Nat := 1
abbrev τ : Topo := Topo.v7x

variable {F : FTy → Type} [FloatOps F]
-- ==== Proof.Layer.lean ====
module

public import proofs.«01_k».proof.Proof.Gen.KernelIdeal.Launch
public import proofs.«01_k».proof.Proof.Gen.KernelIdeal.Skeleton

/-! # What one layer of the kernel computes, in pieces

Each definition is one piece of a layer as a function of whole arrays, for any float values: the attention
matrix built on the host, the edge phase on the host, and the two pallas calls. The printed program composes
them twice. -/

@[expose] public section

noncomputable section

namespace Cert.KernelIdeal.Val

open Cert.KernelIdeal.Gen

open Idealize.ShloMosaic Idealize.ShloMosaic.TcCoe

variable {F : FTy → Type} [FloatOps F]

/-- The edges' source nodes: row 0 of the edge list. -/
def srcOf (e : IVec S2x160000 32) : IVec S160000 32 :=
  shapeCast S160000 (extractStridedSlice S1x160000 ![0, 0] e slices_S2x160000_S1x160000_0_0) shapeCasts_S1x160000_S160000

/-- The edges' target nodes: row 1 of the edge list. -/
def dstOf (e : IVec S2x160000 32) : IVec S160000 32 :=
  shapeCast S160000 (extractStridedSlice S1x160000 ![1, 0] e slices_S2x160000_S1x160000_1_0) shapeCasts_S1x160000_S160000

/-- Node indices as a column of index words, a negative one counted from the end. -/
def wrapNode (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- Node indices beside the first of the four columns to read. -/
def nodeCol (k : BitVec 32) (v : IVec S160000 32) : IVec S160000x2 32 :=
  concatenate S160000x2 1 [⟨S160000x1, wrapNode v⟩, ⟨S160000x1, broadcastInDim S160000x1 ![] bcast_S_S160000x1 (constantI S_ 32 k)⟩]
    concatenates_S160000x1_S160000x1_S160000x2_d1

/-- The row each attention weight takes in the attention matrix: `256·head + position`. -/
def amatRow : IVec S1024 32 :=
  shapeCast S1024 (addi
    (broadcastInDim S4x256 ![0, 1] bcast_S4x1_S4x256_0_1 (muli (broadcastInDim S4x1 ![0] bcast_S4_S4x1_0 (iotaInDim S4 32 0))
      (broadcastInDim S4x1 ![] bcast_S_S4x1 (constantI S_ 32 256#32))))
    (broadcastInDim S4x256 ![0, 1] bcast_S1x256_S4x256_0_1 (broadcastInDim S1x256 ![1] bcast_S256_S1x256_1 (iotaInDim S256 32 0))))
    shapeCasts_S4x256_S1024

/-- The column each source weight takes in the attention matrix: its head. -/
def amatCol : IVec S1024 32 :=
  shapeCast S1024 (broadcastInDim S4x256 ![0] bcast_S4_S4x256_0 (iotaInDim S4 32 0)) shapeCasts_S4x256_S1024

/-- A vector of indices, a negative one counted from the end of an axis of `k`. -/
def wrap1024 (k : BitVec 32) (v : IVec S1024 32) : IVec S1024 32 :=
  select (cmpi .slt v (broadcastInDim S1024 ![] bcast_S_S1024 (constantI S_ 32 0#32)))
    (addi v (broadcastInDim S1024 ![] bcast_S_S1024 (constantI S_ 32 k))) v

/-- The places of the attention matrix, row beside column. -/
def amatIdx (col : IVec S1024 32) : IVec S1024x2 32 :=
  concatenate S1024x2 1 [⟨S1024x1, broadcastInDim S1024x1 ![0] bcast_S1024_S1024x1_0 (wrap1024 1024#32 amatRow)⟩,
    ⟨S1024x1, broadcastInDim S1024x1 ![0] bcast_S1024_S1024x1_0 (wrap1024 8#32 col)⟩] concatenates_S1024x1_S1024x1_S1024x2_d1

/-- The places of the source weights. -/
def amatIdxSrc : IVec S1024x2 32 := amatIdx amatCol

/-- The places of the target weights: four columns further. -/
def amatIdxDst : IVec S1024x2 32 := amatIdx (addi amatCol (broadcastInDim S1024 ![] bcast_S_S1024 (constantI S_ 32 4#32)))

/-- The attention matrix: zeros, the source weights set in, then the target weights. -/
def amat (aS aD : FVec F S4x256 .f32) : FVec F S1024x8 .f32 :=
  Host.scatter scatter_S1024x8_S1024x2_S1024_n_01_01_1 (fun _ b => b)
    (Host.scatter scatter_S1024x8_S1024x2_S1024_n_01_01_1 (fun _ b => b)
      (broadcastInDim S1024x8 ![] bcast_S_S1024x8 (constant S_ .f32 0x00000000#32)) amatIdxSrc
      (shapeCast S1024 aS shapeCasts_S4x256_S1024)) amatIdxDst (shapeCast S1024 aD shapeCasts_S4x256_S1024)

/-- Each edge's attention logits, one per head: the source's four columns plus the target's. -/
def logits (a : FVec F S10000x8 .f32) (src dst : IVec S160000 32) : FVec F S160000x4 .f32 :=
  addf (Host.gather gather_S10000x8_S160000x2_S160000x4_1_0_n_n_01_1_14 a (nodeCol 0#32 src))
    (Host.gather gather_S10000x8_S160000x2_S160000x4_1_0_n_n_01_1_14 a (nodeCol 4#32 dst))

/-- The leaky rectifier: `z` where `z ≥ 0`, else `0.2·z`. -/
def leaky (z : FVec F S160000x4 .f32) : FVec F S160000x4 .f32 :=
  select (cmpf .oge z (broadcastInDim S160000x4 ![] bcast_S_S160000x4 (constant S_ .f32 0x00000000#32))) z
    (mulf (broadcastInDim S160000x4 ![] bcast_S_S160000x4 (constant S_ .f32 0x3E4CCCCD#32)) z)

/-- The sum per target node of a weight per edge and head. -/
def segSum4 (dst : IVec S160000 32) (w : FVec F S160000x4 .f32) : FVec F S10000x4 .f32 :=
  Host.scatterAdd scatter_S10000x4_S160000x1_S160000x4_1_0_0_1
    (broadcastInDim S10000x4 ![] bcast_S_S10000x4 (constant S_ .f32 0x00000000#32))
    (broadcastInDim S160000x1 ![0] bcast_S160000_S160000x1_0 dst) w

/-- A per-node, per-head value read at each edge's node. -/
def atNode4 (v : IVec S160000 32) (x : FVec F S10000x4 .f32) : FVec F S160000x4 .f32 :=
  Host.gather gather_S10000x4_S160000x1_S160000x4_1_0_n_n_0_1_14 x (wrapNode v)

/-- The kernel's attention: `exp z` over the target's sum of them plus a small guard. -/
def attn (dst : IVec S160000 32) (z : FVec F S160000x4 .f32) : FVec F S160000x4 .f32 :=
  Host.divf (Host.exp z) (addf (atNode4 dst (segSum4 dst (Host.exp z)))
    (broadcastInDim S160000x4 ![] bcast_S_S160000x4 (constant S_ .f32 0x24E69595#32)))

/-- The aggregation: each edge's source row per head, weighted, summed per target and averaged over the heads. -/
def aggregate (h : FVec F S10000x4x256 .f32) (src dst : IVec S160000 32) (w : FVec F S160000x4 .f32) : FVec F S10000x256 .f32 :=
  Host.divf (Host.reduceAdd
    (Host.scatterAdd scatter_S10000x4x256_S160000x1_S160000x4x256_12_0_0_1
      (broadcastInDim S10000x4x256 ![] bcast_S_S10000x4x256 (constant S_ .f32 0x00000000#32))
      (broadcastInDim S160000x1 ![0] bcast_S160000_S160000x1_0 dst)
      (mulf (Host.gather gather_S10000x4x256_S160000x1_S160000x4x256_12_0_n_n_0_1_14256 h (wrapNode src))
        (broadcastInDim S160000x4x256 ![0, 1, 2] bcast_S160000x4x1_S160000x4x256_0_1_2
          (broadcastInDim S160000x4x1 ![0, 1] bcast_S160000x4_S160000x4x1_0_1 w))))
    (constant S_ .f32 0x00000000#32) reducesTo_S10000x4x256_S10000x256_d1 h_S_)
    (broadcastInDim S10000x256 ![] bcast_S_S10000x256 (constant S_ .f32 0x40800000#32))

/-- The rows of `h` split into heads. -/
def heads (h : FVec F S10000x1024 .f32) : FVec F S10000x4x256 .f32 :=
  shapeCast S10000x4x256 h shapeCasts_S10000x1024_S10000x4x256

/-- The edge phase, from the leaky logits on. -/
def edgePhase (h : FVec F S10000x1024 .f32) (src dst : IVec S160000 32) (z : FVec F S160000x4 .f32) : FVec F S10000x256 .f32 :=
  aggregate (heads h) src dst (attn dst z)

/-- A parameter vector as one row. -/
def row (v : FVec F S256 .f32) : FVec F S1x256 .f32 := shapeCast S1x256 v shapeCasts_S256_S1x256

end Cert.KernelIdeal.Val
-- ==== Proof.Dense.lean ====
module

public import proofs.«01_k».proof.Proof.Layer
public import proofs.«01_k».proof.Proof.Gen.KernelIdeal.Frame
public import Idealize.ShloMosaic.Lib.Pipeline.Value
public import Idealize.ShloMosaic.Lib.MatmulPlain
public import Idealize.ShloMosaic.Lib.ValueIdxCore
public import Idealize.ShloMosaic.PureOps.Ideal.Laws

/-! # The two matrix products of a layer

What one block of 1000 rows computes, over the extended reals, and what the two result arrays hold after the ten
blocks: the products of the whole arrays. -/

@[expose] public section

noncomputable section

namespace Cert.KernelIdeal.Val

open Cert.KernelIdeal.Gen

open Idealize.ShloMosaic Idealize.ShloMosaic.TcCoe Idealize.ShloMosaic.ValueIdx
open Idealize.ShloMosaic.Pipeline (Dat)
open scoped BigOperators

/-- `x · W`, entry by entry. -/
def denseH (x : FVec Ideal S10000x256 .f32) (W : FVec Ideal S256x1024 .f32) : FVec Ideal S10000x1024 .f32 :=
  fun i => ∑ k : Fin 256, x (ix2 (i 0) k) * W (ix2 k (i 1))

/-- `h · amat`, entry by entry. -/
def denseA (h : FVec Ideal S10000x1024 .f32) (am : FVec Ideal S1024x8 .f32) : FVec Ideal S10000x8 .f32 :=
  fun i => ∑ k : Fin 1024, h (ix2 (i 0) k) * am (ix2 k (i 1))

/-- A block's first product at an entry. -/
theorem k0_pay1_apply (x : Vec Ideal S1000x256 .f32) (W : Vec Ideal S256x1024 .f32) (j : S1000x1024.Idx) :
    k0_pay1 x W j = ∑ k : Fin 256, x (ix2 (j 0) k) * W (ix2 k (j 1)) := by
  rw [eq_ix2 j]
  refine (Ideal.matmul_plain_apply (M := 1000) (K := 256) (N := 1024) none x W _ (j 0) (j 1)).trans ?_
  rw [show constant (F := Ideal) S1000x1024 .f32 0x00000000#32 (ix2 (j 0) (j 1)) = 0 from Ideal.ofBits_zero_f32, zero_add]

/-- A block's second product at an entry. -/
theorem k0_pay2_apply (x : Vec Ideal S1000x256 .f32) (W : Vec Ideal S256x1024 .f32) (am : Vec Ideal S1024x8 .f32) (j : S1000x8.Idx) :
    k0_pay2 x W am j = ∑ k : Fin 1024, k0_pay1 x W (ix2 (j 0) k) * am (ix2 k (j 1)) := by
  rw [eq_ix2 j]
  unfold k0_pay2
  dsimp only
  rw [shapeCast_self]
  refine (Ideal.matmul_plain_apply (M := 1000) (K := 1024) (N := 8) none (k0_pay1 x W) am _ (j 0) (j 1)).trans ?_
  rw [show constant (F := Ideal) S1000x8 .f32 0x00000000#32 (ix2 (j 0) (j 1)) = 0 from Ideal.ofBits_zero_f32, zero_add]

/-- Where a block's rows are rows `n` of an array, its first product holds rows `n` of the whole product. -/
theorem k0_pay1_rows (n : Fin 1000 → Fin 10000) (xb : Vec Ideal S1000x256 .f32) (x : FVec Ideal S10000x256 .f32) (W : FVec Ideal S256x1024 .f32)
    (hx : ∀ r k, xb (ix2 r k) = x (ix2 (n r) k)) (r : Fin 1000) (q : Fin 1024) :
    k0_pay1 xb W (ix2 r q) = denseH x W (ix2 (n r) q) := by
  rw [k0_pay1_apply]
  exact Finset.sum_congr rfl fun k _ => congrArg (· * _) (hx r k)

/-- and its second product rows `n` of the whole second product. -/
theorem k0_pay2_rows (n : Fin 1000 → Fin 10000) (xb : Vec Ideal S1000x256 .f32) (x : FVec Ideal S10000x256 .f32) (W : FVec Ideal S256x1024 .f32)
    (am : FVec Ideal S1024x8 .f32) (hx : ∀ r k, xb (ix2 r k) = x (ix2 (n r) k)) (r : Fin 1000) (q : Fin 8) :
    k0_pay2 xb W am (ix2 r q) = denseA (denseH x W) am (ix2 (n r) q) := by
  rw [k0_pay2_apply]
  exact Finset.sum_congr rfl fun k _ => congrArg (· * _) (k0_pay1_rows n xb x W hx r k)

/-- The second layer's block computes the same products. -/
theorem k2_pay1_eq (x : Vec Ideal S1000x256 .f32) (W : Vec Ideal S256x1024 .f32) : k2_pay1 x W = k0_pay1 x W := by
  unfold k2_pay1 k0_pay1
  dsimp only
  rw [shapeCast_self]
/-- The second layer's dense body computes what the first one's does. -/
theorem k2_pay2_eq (x : Vec Ideal S1000x256 .f32) (W : Vec Ideal S256x1024 .f32) (am : Vec Ideal S1024x8 .f32) :
    k2_pay2 x W am = k0_pay2 x W am := by
  unfold k2_pay2 k0_pay2
  dsimp only
  rw [k2_pay1_eq]

/-- The zero offsets of a whole block. -/
theorem hz : (![0, 0] : Fin 2 → Nat) = fun _ => 0 := funext fun a => by fin_cases a <;> rfl

variable (V : (c : Dev nD) → (b : Ref sig .tc) → Buf (Elt Ideal) ((c : Thread nD τ).loc b))

/-! ## The first layer's call -/

/-- The array row that row `r` of point `t`'s block is. -/
def rowAt0 (t : Fin cfg0.N) (r : Fin 1000) : Fin 10000 := (win0_0.blk t).view.emb (ix2 r 0) 0

/-- Step `t` of the first layer reads rows `1000·t` on of its input. -/
theorem blk0_0 (c : Dev nD) (t : Fin cfg0.N) (r : Fin 1000) (k : Fin 256) :
    (iblk0 V c 0 t : Vec Ideal S1000x256 .f32) (ix2 r k) = (V c main_arg0 : FVec Ideal S10000x256 .f32) (ix2 (rowAt0 t r) k) := by
  refine congrArg (V c main_arg0) (funext fun a => Fin.ext ?_)
  match a with
  | ⟨0, _⟩ => rfl
  | ⟨1, _⟩ => show 0 * 256 + 1 * k.val = k.val; omega

/-- Each step of the first layer reads the whole weight matrix. -/
theorem blk0_1 (c : Dev nD) (t : Fin cfg0.N) : (iblk0 V c 1 t : Vec Ideal S256x1024 .f32) = V c main_arg2 := by
  refine funext fun j => congrArg (V c main_arg2) (funext fun a => Fin.ext ?_)
  match a with
  | ⟨0, _⟩ => show 0 * 256 + 1 * (j 0).val = (j 0).val; omega
  | ⟨1, _⟩ => show 0 * 1024 + 1 * (j 1).val = (j 1).val; omega

/-- Each step of the first layer reads the whole attention matrix. -/
theorem blk0_2 (c : Dev nD) (t : Fin cfg0.N) : (iblk0 V c 2 t : Vec Ideal S1024x8 .f32) = V c main_v48 := by
  refine funext fun j => congrArg (V c main_v48) (funext fun a => Fin.ext ?_)
  match a with
  | ⟨0, _⟩ => show 0 * 1024 + 1 * (j 0).val = (j 0).val; omega
  | ⟨1, _⟩ => show 0 * 8 + 1 * (j 1).val = (j 1).val; omega

/-- What point `t` writes back of the first product: its rows of the whole product. -/
theorem flushed0_3 (c : Dev nD) (t : Fin cfg0.N) :
    (dat0 V c).flushed 3 t = (win0_3.blk t).view.read (Elt Ideal) (denseH (V c main_arg0) (V c main_arg2)) := by
  show (cfg0.win 3).cut (grid0.coords t) ((dat0 V c).after 3 t) = _
  rw [after0_3]
  unfold out0_3
  rw [View.canon_unit_zero hz, View.ld_unit_zero hz, View.ld_unit_zero hz]
  rw [blk0_1]
  funext j
  refine (congrArg (k0_pay1 (iblk0 V c 0 t) (V c main_arg2)) (eq_ix2 (n0 := 1000) (n1 := 1024) j)).trans
    ((k0_pay1_rows (rowAt0 t) _ (V c main_arg0) (V c main_arg2) (blk0_0 V c t) (j 0) (j 1)).trans ?_)
  refine congrArg (denseH (V c main_arg0) (V c main_arg2)) (funext fun a => Fin.ext ?_)
  match a with
  | ⟨0, _⟩ => rfl
  | ⟨1, _⟩ => show (j 1).val = 0 * 1024 + 1 * (j 1).val; omega

/-- What point `t` writes back of the second product: its rows of the whole second product. -/
theorem flushed0_4 (c : Dev nD) (t : Fin cfg0.N) :
    (dat0 V c).flushed 4 t = (win0_4.blk t).view.read (Elt Ideal) (denseA (denseH (V c main_arg0) (V c main_arg2)) (V c main_v48)) := by
  show (cfg0.win 4).cut (grid0.coords t) ((dat0 V c).after 4 t) = _
  rw [after0_4]
  unfold out0_4
  rw [View.canon_unit_zero hz, View.ld_unit_zero hz, View.ld_unit_zero hz, View.ld_unit_zero hz]
  rw [blk0_1, blk0_2]
  funext j
  refine (congrArg (k0_pay2 (iblk0 V c 0 t) (V c main_arg2) (V c main_v48)) (eq_ix2 (n0 := 1000) (n1 := 8) j)).trans
    ((k0_pay2_rows (rowAt0 t) _ (V c main_arg0) (V c main_arg2) (V c main_v48) (blk0_0 V c t) (j 0) (j 1)).trans ?_)
  refine congrArg (denseA (denseH (V c main_arg0) (V c main_arg2)) (V c main_v48)) (funext fun a => Fin.ext ?_)
  match a with
  | ⟨0, _⟩ => rfl
  | ⟨1, _⟩ => show (j 1).val = 0 * 8 + 1 * (j 1).val; omega

/-- Which step of the first layer writes an entry of the projected rows: the one of its row's block. -/
theorem mem_blk0_3 (t : Fin cfg0.N) (i : S10000x1024.Idx) :
    i ∈ ((cfg0.win 3).blk t).view.set ↔ t.val * 1000 ≤ (i 0 : Nat) ∧ (i 0 : Nat) < t.val * 1000 + 1000 := by
  show i ∈ ((View.whole main_v49_0).slice (win0_3.rect t)).set ↔ _
  rw [View.set_slice_whole, Rect.mem_set_unit]
  have h1 : (i 1 : Nat) < 1024 := (i 1).isLt
  have e : win0_3.index t 0 * win0_3.size 0 = t.val * 1000 ∧ win0_3.xsize (grid0.coords t) 0 = 1000
      ∧ win0_3.index t 1 * win0_3.size 1 = 0 ∧ win0_3.xsize (grid0.coords t) 1 = 1024 := by
    rcases fin_N0 t with rfl | rfl | rfl | rfl | rfl | rfl | rfl | rfl | rfl | rfl <;> decide +kernel
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e.1, e.2.1]; exact h
    | ⟨1, _⟩ => show win0_3.index t 1 * win0_3.size 1 ≤ (i 1 : Nat) ∧ (i 1 : Nat) < win0_3.index t 1 * win0_3.size 1 + win0_3.xsize (grid0.coords t) 1
                rw [e.2.2.1, e.2.2.2]; omega

/-- The ten blocks of result 0 tile its array. -/
theorem tiled0_3 (i : S10000x1024.Idx) :
    ∃ t : Fin cfg0.N, (cfg0.win 3).flush t = true ∧ i ∈ ((cfg0.win 3).blk t).view.set := by
  have h0 : (i 0 : Nat) < 10000 := (i 0).isLt
  have hN : cfg0.N = 10 := N_0
  have ht : (i 0 : Nat) / 1000 < cfg0.N := by omega
  refine ⟨⟨(i 0 : Nat) / 1000, ht⟩, flush0_3 _, ?_⟩
  rw [mem_blk0_3]
  dsimp only
  omega

/-- Which step of the first layer writes an entry of the attention products. -/
theorem mem_blk0_4 (t : Fin cfg0.N) (i : S10000x8.Idx) :
    i ∈ ((cfg0.win 4).blk t).view.set ↔ t.val * 1000 ≤ (i 0 : Nat) ∧ (i 0 : Nat) < t.val * 1000 + 1000 := by
  show i ∈ ((View.whole main_v49_1).slice (win0_4.rect t)).set ↔ _
  rw [View.set_slice_whole, Rect.mem_set_unit]
  have h1 : (i 1 : Nat) < 8 := (i 1).isLt
  have e : win0_4.index t 0 * win0_4.size 0 = t.val * 1000 ∧ win0_4.xsize (grid0.coords t) 0 = 1000
      ∧ win0_4.index t 1 * win0_4.size 1 = 0 ∧ win0_4.xsize (grid0.coords t) 1 = 8 := by
    rcases fin_N0 t with rfl | rfl | rfl | rfl | rfl | rfl | rfl | rfl | rfl | rfl <;> decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

/-- The ten blocks of result 1 tile its array. -/
theorem tiled0_4 (i : S10000x8.Idx) :
    ∃ t : Fin cfg0.N, (cfg0.win 4).flush t = true ∧ i ∈ ((cfg0.win 4).blk t).view.set := by
  have h0 : (i 0 : Nat) < 10000 := (i 0).isLt
  have hN : cfg0.N = 10 := N_0
  have ht : (i 0 : Nat) / 1000 < cfg0.N := by omega
  refine ⟨⟨(i 0 : Nat) / 1000, ht⟩, flush0_4 _, ?_⟩
  rw [mem_blk0_4]
  dsimp only
  omega

/-- After the first layer's call the first result array holds `x · W`, -/
theorem arr0_3 (c : Dev nD) : (dat0 V c).arrAt 3 cfg0.N = denseH (V c main_arg0) (V c main_arg2) :=
  (dat0 V c).arrAt_eq_of_cover 3 (denseH (V c main_arg0) (V c main_arg2)) (fun t _ => flushed0_3 V c t) tiled0_3

/-- and the second `(x · W) · amat`. -/
theorem arr0_4 (c : Dev nD) : (dat0 V c).arrAt 4 cfg0.N = denseA (denseH (V c main_arg0) (V c main_arg2)) (V c main_v48) :=
  (dat0 V c).arrAt_eq_of_cover 4 (denseA (denseH (V c main_arg0) (V c main_arg2)) (V c main_v48)) (fun t _ => flushed0_4 V c t) tiled0_4

/-! ## The second layer's call -/

/-- The array row that row `r` of point `t`'s block is. -/
def rowAt2 (t : Fin cfg2.N) (r : Fin 1000) : Fin 10000 := (win2_0.blk t).view.emb (ix2 r 0) 0

/-- Step `t` of the second layer reads rows `1000·t` on of its input. -/
theorem blk2_0 (c : Dev nD) (t : Fin cfg2.N) (r : Fin 1000) (k : Fin 256) :
    (iblk2 V c 0 t : Vec Ideal S1000x256 .f32) (ix2 r k) = (V c main_v108 : FVec Ideal S10000x256 .f32) (ix2 (rowAt2 t r) k) := by
  refine congrArg (V c main_v108) (funext fun a => Fin.ext ?_)
  match a with
  | ⟨0, _⟩ => rfl
  | ⟨1, _⟩ => show 0 * 256 + 1 * k.val = k.val; omega

/-- Each step of the second layer reads the whole weight matrix. -/
theorem blk2_1 (c : Dev nD) (t : Fin cfg2.N) : (iblk2 V c 1 t : Vec Ideal S256x1024 .f32) = V c main_arg8 := by
  refine funext fun j => congrArg (V c main_arg8) (funext fun a => Fin.ext ?_)
  match a with
  | ⟨0, _⟩ => show 0 * 256 + 1 * (j 0).val = (j 0).val; omega
  | ⟨1, _⟩ => show 0 * 1024 + 1 * (j 1).val = (j 1).val; omega

/-- Each step of the second layer reads the whole attention matrix. -/
theorem blk2_2 (c : Dev nD) (t : Fin cfg2.N) : (iblk2 V c 2 t : Vec Ideal S1024x8 .f32) = V c main_v153 := by
  refine funext fun j => congrArg (V c main_v153) (funext fun a => Fin.ext ?_)
  match a with
  | ⟨0, _⟩ => show 0 * 1024 + 1 * (j 0).val = (j 0).val; omega
  | ⟨1, _⟩ => show 0 * 8 + 1 * (j 1).val = (j 1).val; omega

/-- What point `t` writes back of the first product: its rows of the whole product. -/
theorem flushed2_3 (c : Dev nD) (t : Fin cfg2.N) :
    (dat2 V c).flushed 3 t = (win2_3.blk t).view.read (Elt Ideal) (denseH (V c main_v108) (V c main_arg8)) := by
  show (cfg2.win 3).cut (grid2.coords t) ((dat2 V c).after 3 t) = _
  rw [after2_3]
  unfold out2_3
  rw [View.canon_unit_zero hz, View.ld_unit_zero hz, View.ld_unit_zero hz]
  rw [k2_pay1_eq, blk2_1]
  funext j
  refine (congrArg (k0_pay1 (iblk2 V c 0 t) (V c main_arg8)) (eq_ix2 (n0 := 1000) (n1 := 1024) j)).trans
    ((k0_pay1_rows (rowAt2 t) _ (V c main_v108) (V c main_arg8) (blk2_0 V c t) (j 0) (j 1)).trans ?_)
  refine congrArg (denseH (V c main_v108) (V c main_arg8)) (funext fun a => Fin.ext ?_)
  match a with
  | ⟨0, _⟩ => rfl
  | ⟨1, _⟩ => show (j 1).val = 0 * 1024 + 1 * (j 1).val; omega

/-- What point `t` writes back of the second product: its rows of the whole second product. -/
theorem flushed2_4 (c : Dev nD) (t : Fin cfg2.N) :
    (dat2 V c).flushed 4 t = (win2_4.blk t).view.read (Elt Ideal) (denseA (denseH (V c main_v108) (V c main_arg8)) (V c main_v153)) := by
  show (cfg2.win 4).cut (grid2.coords t) ((dat2 V c).after 4 t) = _
  rw [after2_4]
  unfold out2_4
  rw [View.canon_unit_zero hz, View.ld_unit_zero hz, View.ld_unit_zero hz, View.ld_unit_zero hz]
  rw [k2_pay2_eq, blk2_1, blk2_2]
  funext j
  refine (congrArg (k0_pay2 (iblk2 V c 0 t) (V c main_arg8) (V c main_v153)) (eq_ix2 (n0 := 1000) (n1 := 8) j)).trans
    ((k0_pay2_rows (rowAt2 t) _ (V c main_v108) (V c main_arg8) (V c main_v153) (blk2_0 V c t) (j 0) (j 1)).trans ?_)
  refine congrArg (denseA (denseH (V c main_v108) (V c main_arg8)) (V c main_v153)) (funext fun a => Fin.ext ?_)
  match a with
  | ⟨0, _⟩ => rfl
  | ⟨1, _⟩ => show (j 1).val = 0 * 8 + 1 * (j 1).val; omega

/-- Which step of the second layer writes an entry of the projected rows. -/
theorem mem_blk2_3 (t : Fin cfg2.N) (i : S10000x1024.Idx) :
    i ∈ ((cfg2.win 3).blk t).view.set ↔ t.val * 1000 ≤ (i 0 : Nat) ∧ (i 0 : Nat) < t.val * 1000 + 1000 := by
  show i ∈ ((View.whole main_v154_0).slice (win2_3.rect t)).set ↔ _
  rw [View.set_slice_whole, Rect.mem_set_unit]
  have h1 : (i 1 : Nat) < 1024 := (i 1).isLt
  have e : win2_3.index t 0 * win2_3.size 0 = t.val * 1000 ∧ win2_3.xsize (grid2.coords t) 0 = 1000
      ∧ win2_3.index t 1 * win2_3.size 1 = 0 ∧ win2_3.xsize (grid2.coords t) 1 = 1024 := by
    rcases fin_N2 t with rfl | rfl | rfl | rfl | rfl | rfl | rfl | rfl | rfl | rfl <;> decide +kernel
  refine ⟨fun h => ?_, fun h a => ?_⟩
  · have : win2_3.index t 0 * win2_3.size 0 ≤ (i 0 : Nat) ∧ (i 0 : Nat) < win2_3.index t 0 * win2_3.size 0 + win2_3.xsize (grid2.coords t) 0 := h 0
    rw [e.1, e.2.1] at this; exact this
  · match a with
    | ⟨0, _⟩ => show win2_3.index t 0 * win2_3.size 0 ≤ (i 0 : Nat) ∧ (i 0 : Nat) < win2_3.index t 0 * win2_3.size 0 + win2_3.xsize (grid2.coords t) 0
                rw [e.1, e.2.1]; exact h
    | ⟨1, _⟩ => show win2_3.index t 1 * win2_3.size 1 ≤ (i 1 : Nat) ∧ (i 1 : Nat) < win2_3.index t 1 * win2_3.size 1 + win2_3.xsize (grid2.coords t) 1
                rw [e.2.2.1, e.2.2.2]; omega

/-- The ten blocks of result 0 tile its array. -/
theorem tiled2_3 (i : S10000x1024.Idx) :
    ∃ t : Fin cfg2.N, (cfg2.win 3).flush t = true ∧ i ∈ ((cfg2.win 3).blk t).view.set := by
  have h0 : (i 0 : Nat) < 10000 := (i 0).isLt
  have hN : cfg2.N = 10 := N_2
  have ht : (i 0 : Nat) / 1000 < cfg2.N := by omega
  refine ⟨⟨(i 0 : Nat) / 1000, ht⟩, flush2_3 _, ?_⟩
  rw [mem_blk2_3]
  dsimp only
  omega

/-- Which step of the second layer writes an entry of the attention products. -/
theorem mem_blk2_4 (t : Fin cfg2.N) (i : S10000x8.Idx) :
    i ∈ ((cfg2.win 4).blk t).view.set ↔ t.val * 1000 ≤ (i 0 : Nat) ∧ (i 0 : Nat) < t.val * 1000 + 1000 := by
  show i ∈ ((View.whole main_v154_1).slice (win2_4.rect t)).set ↔ _
  rw [View.set_slice_whole, Rect.mem_set_unit]
  have h1 : (i 1 : Nat) < 8 := (i 1).isLt
  have e : win2_4.index t 0 * win2_4.size 0 = t.val * 1000 ∧ win2_4.xsize (grid2.coords t) 0 = 1000
      ∧ win2_4.index t 1 * win2_4.size 1 = 0 ∧ win2_4.xsize (grid2.coords t) 1 = 8 := by
    rcases fin_N2 t with rfl | rfl | rfl | rfl | rfl | rfl | rfl | rfl | rfl | rfl <;> decide +kernel
  refine ⟨fun h => ?_, fun h a => ?_⟩
  · have : win2_4.index t 0 * win2_4.size 0 ≤ (i 0 : Nat) ∧ (i 0 : Nat) < win2_4.index t 0 * win2_4.size 0 + win2_4.xsize (grid2.coords t) 0 := h 0
    rw [e.1, e.2.1] at this; exact this
  · match a with
    | ⟨0, _⟩ => show win2_4.index t 0 * win2_4.size 0 ≤ (i 0 : Nat) ∧ (i 0 : Nat) < win2_4.index t 0 * win2_4.size 0 + win2_4.xsize (grid2.coords t) 0
                rw [e.1, e.2.1]; exact h
    | ⟨1, _⟩ => show win2_4.index t 1 * win2_4.size 1 ≤ (i 1 : Nat) ∧ (i 1 : Nat) < win2_4.index t 1 * win2_4.size 1 + win2_4.xsize (grid2.coords t) 1
                rw [e.2.2.1, e.2.2.2]; omega

/-- The ten blocks of result 1 tile its array. -/
theorem tiled2_4 (i : S10000x8.Idx) :
    ∃ t : Fin cfg2.N, (cfg2.win 4).flush t = true ∧ i ∈ ((cfg2.win 4).blk t).view.set := by
  have h0 : (i 0 : Nat) < 10000 := (i 0).isLt
  have hN : cfg2.N = 10 := N_2
  have ht : (i 0 : Nat) / 1000 < cfg2.N := by omega
  refine ⟨⟨(i 0 : Nat) / 1000, ht⟩, flush2_4 _, ?_⟩
  rw [mem_blk2_4]
  dsimp only
  omega

/-- After the second layer's call the first result array holds `x · W`, -/
theorem arr2_3 (c : Dev nD) : (dat2 V c).arrAt 3 cfg2.N = denseH (V c main_v108) (V c main_arg8) :=
  (dat2 V c).arrAt_eq_of_cover 3 (denseH (V c main_v108) (V c main_arg8)) (fun t _ => flushed2_3 V c t) tiled2_3

/-- and the second `(x · W) · amat`. -/
theorem arr2_4 (c : Dev nD) : (dat2 V c).arrAt 4 cfg2.N = denseA (denseH (V c main_v108) (V c main_arg8)) (V c main_v153) :=
  (dat2 V c).arrAt_eq_of_cover 4 (denseA (denseH (V c main_v108) (V c main_arg8)) (V c main_v153)) (fun t _ => flushed2_4 V c t) tiled2_4

end Cert.KernelIdeal.Val
-- ==== Proof.Amat.lean ====
module

public import proofs.«01_k».proof.Proof.Dense
public import Idealize.ShloMosaic.Lib.ValueIdxCore
public import Idealize.ShloMosaic.Lib.Pipeline.Value
public import Idealize.ShloMosaic.Lib.Routing.OpsPair
public import Idealize.ShloMosaic.Lib.Routing.OpsSet

/-! # The attention matrix

The matrix has 1024 rows and 8 columns. Row `t` carries the source weight of head `t / 256` in that head's column
and the target weight four columns further; every other entry is zero. A row of `h` times the matrix is therefore
each head's inner product with its attention vector. -/

@[expose] public section

noncomputable section

namespace Cert.KernelIdeal.Val

open Cert.KernelIdeal.Gen

open Idealize.ShloMosaic Idealize.ShloMosaic.ValueIdx
open scoped BigOperators

/-- The row index of weight `t` is `t`. -/
theorem wrapRow (t : Fin 1024) : (wrap1024 1024#32 amatRow (ix1 t)).toInt = (t.val : Int) := by
  revert t; decide +kernel

/-- The column index of source weight `t` is its head. -/
theorem wrapSrc (t : Fin 1024) : (wrap1024 8#32 amatCol (ix1 t)).toInt = ((t.val / 256 : Nat) : Int) := by
  revert t; decide +kernel

/-- The column index of target weight `t` is its head, four columns on. -/
theorem wrapDst (t : Fin 1024) :
    (wrap1024 8#32 (addi amatCol (broadcastInDim S1024 ![] bcast_S_S1024 (constantI S_ 32 4#32))) (ix1 t)).toInt = ((t.val / 256 + 4 : Nat) : Int) := by
  revert t; decide +kernel

/-- The first of weight `t`'s two indices: row `t`. -/
theorem amatIdx_apply0 (col : IVec S1024 32) (t : Fin 1024) : (amatIdx col (ix2 t 0)).toInt = (t.val : Int) := by
  refine (congrArg BitVec.toInt ((concatenate_pair_apply_left (t := S1024x2) (s₁ := S1024x1) (s₂ := S1024x1) 1 _ _ _ (ix2 t 0) rfl (ix2 t 0) fun b => ?_).trans
    (broadcastInDim_apply _ _ _ _ (ix1 t) fun a => ?_))).trans (wrapRow t)
  · match b with
    | ⟨0, _⟩ => rfl
    | ⟨1, _⟩ => rfl
  · match a with
    | ⟨0, _⟩ => rfl

/-- The second of weight `t`'s two indices: its column. -/
theorem amatIdx_apply1 (col : IVec S1024 32) (t : Fin 1024) : amatIdx col (ix2 t 1) = wrap1024 8#32 col (ix1 t) := by
  refine (concatenate_pair_apply_right (t := S1024x2) (s₁ := S1024x1) (s₂ := S1024x1) 1 _ _ _ (ix2 t 1) rfl rfl (ix2 t 0)
    (fun b hb => ?_) rfl).trans (broadcastInDim_apply _ _ _ _ (ix1 t) fun a => ?_)
  · match b with
    | ⟨0, _⟩ => rfl
    | ⟨1, _⟩ => exact absurd rfl hb
  · match a with
    | ⟨0, _⟩ => rfl

/-- Where weight `t` is set: row `t`, the column its index names. -/
theorem amat_lands (col : IVec S1024 32) (t : Fin 1024) (r : Fin 1024) (c : Fin 8) :
    scatter_S1024x8_S1024x2_S1024_n_01_01_1.resultIdx? (ix1 t) (amatIdx col) = some (ix2 r c)
      ↔ t = r ∧ (wrap1024 8#32 col (ix1 t)).toInt = (c.val : Int) := by
  rw [Routing.resultIdx?_eq_some]
  have h0 : scatter_S1024x8_S1024x2_S1024_n_01_01_1.start (ix1 t) (amatIdx col) 0 = (t.val : Int) := by
    unfold ScatterDims.start
    rw [dif_pos (by decide), ← amatIdx_apply0 col t]
    refine congrArg (fun k => (amatIdx col k).toInt) (funext fun b => ?_)
    match b with
    | ⟨0, _⟩ => rfl
    | ⟨1, _⟩ => rfl
  have h1 : scatter_S1024x8_S1024x2_S1024_n_01_01_1.start (ix1 t) (amatIdx col) 1 = (wrap1024 8#32 col (ix1 t)).toInt := by
    unfold ScatterDims.start
    rw [dif_pos (by decide), ← amatIdx_apply1 col t]
    refine congrArg (fun k => (amatIdx col k).toInt) (funext fun b => ?_)
    match b with
    | ⟨0, _⟩ => rfl
    | ⟨1, _⟩ => rfl
  have w0 : scatter_S1024x8_S1024x2_S1024_n_01_01_1.window (ix1 t) 0 = 0 := rfl
  have w1 : scatter_S1024x8_S1024x2_S1024_n_01_01_1.window (ix1 t) 1 = 0 := rfl
  constructor
  · intro h
    have a0 := h 0
    have a1 := h 1
    rw [h0, w0] at a0
    rw [h1, w1] at a1
    refine ⟨Fin.ext ?_, by simpa using a1⟩
    have : ((ix2 r c : S1024x8.Idx) 0).val = r.val := rfl
    omega
  · rintro ⟨rfl, a1⟩
    refine Fin.forall_fin_two.2 ⟨?_, ?_⟩
    · rw [h0, w0]; simp
    · rw [h1, w1, a1]; simp

/-- A weight vector read at row `t`: the head's weight at the position. -/
theorem flat_apply (a : FVec Ideal S4x256 .f32) (c : Fin 4) (d : Fin 256) (t : Fin 1024) (ht : t.val = 256 * c.val + d.val) :
    shapeCast S1024 a shapeCasts_S4x256_S1024 (ix1 t) = a (ix2 c d) := by
  refine shapeCast_apply _ _ _ _ ?_
  rw [Shape.rowMajor_val_two, Shape.rowMajor_val_one]
  show c.val * 256 + d.val = t.val
  omega

/-- The attention matrix's entries in head `k`'s rows. -/
theorem amat_apply (aS aD : FVec Ideal S4x256 .f32) (k : Fin 4) (d : Fin 256) (r : Fin 1024) (hr : r.val = 256 * k.val + d.val) (c : Fin 8) :
    amat (F := Ideal) aS aD (ix2 r c) = if k.val + 4 = c.val then aD (ix2 k d) else if k.val = c.val then aS (ix2 k d) else 0 := by
  have hdiv : r.val / 256 = k.val := by omega
  unfold amat
  split
  · next h =>
    refine Routing.scatter_set_hit _ _ _ _ _ _ (fun j hj => ?_) (ix1 r) ((amat_lands _ r r c).2 ⟨rfl, ?_⟩)
    · rw [eq_ix1 j] at hj ⊢
      rw [((amat_lands _ (j 0) r c).1 hj).1]
      exact flat_apply aD k d r hr
    · rw [wrapDst, hdiv, h]
  · next h =>
    rw [Routing.scatter_set_miss _ _ _ _ _ fun j hj => ?_]
    · split
      · next h' =>
        refine Routing.scatter_set_hit _ _ _ _ _ _ (fun j hj => ?_) (ix1 r) ((amat_lands _ r r c).2 ⟨rfl, ?_⟩)
        · rw [eq_ix1 j] at hj ⊢
          rw [((amat_lands _ (j 0) r c).1 hj).1]
          exact flat_apply aS k d r hr
        · rw [wrapSrc, hdiv, h']
      · next h' =>
        rw [Routing.scatter_set_miss _ _ _ _ _ fun j hj => ?_]
        · exact Ideal.ofBits_zero_f32
        · rw [eq_ix1 j] at hj
          obtain ⟨e, hc⟩ := (amat_lands _ (j 0) r c).1 hj
          rw [e, wrapSrc, hdiv] at hc
          exact h' (by exact_mod_cast hc)
    · rw [eq_ix1 j] at hj
      obtain ⟨e, hc⟩ := (amat_lands _ (j 0) r c).1 hj
      rw [e, wrapDst, hdiv] at hc
      exact h (by exact_mod_cast hc)

/-- Column `256·c + d` of the 1024. -/
def col (c : Fin 4) (d : Fin 256) : Fin 1024 := ⟨256 * c.val + d.val, by omega⟩

/-- A sum over the columns, head by head. -/
theorem sum_col (f : Fin 1024 → EReal) : ∑ k : Fin 1024, f k = ∑ c : Fin 4, ∑ d : Fin 256, f (col c d) := by
  rw [← Fintype.sum_prod_type' (f := fun c d => f (col c d))]
  refine (Fintype.sum_equiv (finProdFinEquiv (m := 4) (n := 256)) _ _ fun p => ?_).symm
  refine congrArg f (Fin.ext ?_)
  show 256 * p.1.val + p.2.val = p.2.val + 256 * p.1.val
  omega

/-- A product with a matrix column that carries `a`'s head `c` in that head's rows and zeros elsewhere. -/
theorem denseA_head (h : FVec Ideal S10000x1024 .f32) (am : FVec Ideal S1024x8 .f32) (a : FVec Ideal S4x256 .f32) (n : Fin 10000) (c : Fin 4)
    (c' : Fin 8) (ham : ∀ k d, am (ix2 (col k d) c') = if k = c then a (ix2 c d) else 0) :
    denseA h am (ix2 n c') = ∑ d : Fin 256, h (ix2 n (col c d)) * a (ix2 c d) := by
  refine (sum_col _).trans ((Finset.sum_eq_single c (fun k _ hk => ?_) fun h => absurd (Finset.mem_univ _) h).trans ?_)
  · refine Finset.sum_eq_zero fun d _ => ?_
    show _ * am (ix2 (col k d) c') = 0
    rw [ham, if_neg hk, mul_zero]
  · refine Finset.sum_congr rfl fun d _ => ?_
    show _ * am (ix2 (col c d) c') = _
    rw [ham, if_pos rfl]

/-- The first four columns of the product: each head's inner product with its source vector. -/
theorem denseA_src (h : FVec Ideal S10000x1024 .f32) (aS aD : FVec Ideal S4x256 .f32) (n : Fin 10000) (c : Fin 4) (c' : Fin 8) (hc : c'.val = c.val) :
    denseA h (amat aS aD) (ix2 n c') = ∑ d : Fin 256, h (ix2 n (col c d)) * aS (ix2 c d) := by
  refine denseA_head h _ aS n c c' fun k d => ?_
  rw [amat_apply aS aD k d _ rfl, if_neg (by omega)]
  by_cases e : k = c
  · subst e
    rw [if_pos hc.symm, if_pos rfl]
  · rw [if_neg e, if_neg fun h => e (Fin.ext (by omega))]

/-- The last four columns of the product: each head's inner product with its target vector. -/
theorem denseA_dst (h : FVec Ideal S10000x1024 .f32) (aS aD : FVec Ideal S4x256 .f32) (n : Fin 10000) (c : Fin 4) (c' : Fin 8) (hc : c'.val = c.val + 4) :
    denseA h (amat aS aD) (ix2 n c') = ∑ d : Fin 256, h (ix2 n (col c d)) * aD (ix2 c d) := by
  refine denseA_head h _ aD n c c' fun k d => ?_
  rw [amat_apply aS aD k d _ rfl]
  have := k.isLt
  by_cases e : k = c
  · subst e
    rw [if_pos hc.symm, if_pos rfl]
  · rw [if_neg e, if_neg fun h => e (Fin.ext (by omega)), if_neg (by omega)]

end Cert.KernelIdeal.Val
-- ==== Proof.Edges.lean ====
module

public import proofs.«01_k».proof.Proof.Layer
public import Idealize.ShloMosaic.Lib.ValueIdxCore
public import Idealize.ShloMosaic.Lib.Pipeline.Value
public import Idealize.ShloMosaic.Lib.Routing.OpsPair

/-! # Which node an edge reads and which it adds to

An edge READS the node its index names, a negative index counted from the end and the result clamped to the nodes.
It ADDS to the node its index names only where that index is one of the nodes as it stands. So on every edge that
adds to a node, the node read at the target is that node. -/

@[expose] public section

noncomputable section

namespace Cert.KernelIdeal.Val

open Cert.KernelIdeal.Gen

open Idealize.ShloMosaic Idealize.ShloMosaic.ValueIdx

variable {F : FTy → Type} [FloatOps F]

/-- A node index, a negative one counted from the end. -/
def wrapWord (w : BitVec 32) : BitVec 32 := Scalar.select (IntOp.cmpi .slt w 0#32) (w + 10000#32) w

/-- The node edge `e` reads through the index vector `v`. -/
def node (v : IVec S160000 32) (e : Fin 160000) : Fin 10000 := ⟨min (wrapWord (v (ix1 e))).toInt.toNat 9999, by omega⟩

/-- The wrapped node index read at edge `e`. -/
theorem wrapNode_apply (v : IVec S160000 32) (j : S160000x1.Idx) (e : Fin 160000) (he : (j 0).val = e.val) :
    wrapNode v j = wrapWord (v (ix1 e)) :=
  broadcastInDim_apply _ _ _ j (ix1 e) fun a => by match a with | ⟨0, _⟩ => exact he.symm

/-- A per-node, per-head array read at an edge: the node's entry of that head. -/
theorem atNode4_apply (v : IVec S160000 32) (x : FVec F S10000x4 .f32) (e : Fin 160000) (c : Fin 4) :
    atNode4 v x (ix2 e c) = x (ix2 (node v e) c) := by
  unfold atNode4 Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  revert a
  refine Fin.forall_fin_two.2 ⟨?_, ?_⟩
  ·
    rw [GatherDims.offCoord_eq_zero _ _ _ (by decide), Nat.add_zero]
    unfold GatherDims.start
    rw [dif_pos (by decide), wrapNode_apply v _ e rfl]
    rfl
  ·
    unfold GatherDims.start
    rw [dif_neg (by decide), Nat.zero_add]
    rfl

/-- The first of an edge's two gather indices: its node, wrapped. -/
theorem nodeCol_apply0 (k : BitVec 32) (v : IVec S160000 32) (e : Fin 160000) : nodeCol k v (ix2 e 0) = wrapWord (v (ix1 e)) := by
  unfold nodeCol
  refine (concatenate_pair_apply_left (t := S160000x2) (s₁ := S160000x1) (s₂ := S160000x1) 1 _ _ _ (ix2 e 0) rfl (ix2 e 0) fun b => ?_).trans
    (wrapNode_apply v _ e rfl)
  match b with
  | ⟨0, _⟩ => rfl
  | ⟨1, _⟩ => rfl

/-- The second of an edge's two gather indices: the first column read. -/
theorem nodeCol_apply1 (k : BitVec 32) (v : IVec S160000 32) (e : Fin 160000) : nodeCol k v (ix2 e 1) = k := by
  unfold nodeCol
  refine (concatenate_pair_apply_right (t := S160000x2) (s₁ := S160000x1) (s₂ := S160000x1) 1 _ _ _ (ix2 e 1) rfl rfl (ix2 e 0)
    (fun b hb => ?_) rfl).trans rfl
  match b with
  | ⟨0, _⟩ => rfl
  | ⟨1, _⟩ => exact absurd rfl hb

/-- Four columns of the attention products read at an edge: the node's entry, `k` columns on. -/
theorem gather8_apply (k : BitVec 32) (hk : k.toInt.toNat ≤ 4) (v : IVec S160000 32) (a : FVec F S10000x8 .f32) (e : Fin 160000) (c : Fin 4) :
    Host.gather gather_S10000x8_S160000x2_S160000x4_1_0_n_n_01_1_14 a (nodeCol k v) (ix2 e c)
      = a (ix2 (node v e) ⟨k.toInt.toNat + c.val, by omega⟩) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil, Nat.add_zero]
  revert a
  refine Fin.forall_fin_two.2 ⟨?_, ?_⟩
  ·
    rw [GatherDims.offCoord_eq_zero _ _ _ (by decide), Nat.add_zero]
    unfold GatherDims.start
    rw [dif_pos (by decide)]
    have hsi : GatherDims.siIdx gather_S10000x8_S160000x2_S160000x4_1_0_n_n_01_1_14 (ix2 e c) ⟨0, by decide⟩ = ix2 e 0 := by
      funext b; refine Fin.ext ?_
      match b with
      | ⟨0, _⟩ => rfl
      | ⟨1, _⟩ => rfl
    show min (nodeCol k v (GatherDims.siIdx gather_S10000x8_S160000x2_S160000x4_1_0_n_n_01_1_14 (ix2 e c) ⟨0, by decide⟩)).toInt.toNat 9999 = _
    rw [hsi, nodeCol_apply0]
    rfl
  ·
    unfold GatherDims.start
    rw [dif_pos (by decide)]
    have hsi : GatherDims.siIdx gather_S10000x8_S160000x2_S160000x4_1_0_n_n_01_1_14 (ix2 e c) ⟨1, by decide⟩ = ix2 e 1 := by
      funext b; refine Fin.ext ?_
      match b with
      | ⟨0, _⟩ => rfl
      | ⟨1, _⟩ => rfl
    show min (nodeCol k v (GatherDims.siIdx gather_S10000x8_S160000x2_S160000x4_1_0_n_n_01_1_14 (ix2 e c) ⟨1, by decide⟩)).toInt.toNat 4 + c.val = _
    rw [hsi, nodeCol_apply1, Nat.min_eq_left hk]

/-- The column of target indices the sums land by. -/
def dstCol (v : IVec S160000 32) : IVec S160000x1 32 := broadcastInDim S160000x1 ![0] bcast_S160000_S160000x1_0 v

/-- The column of targets at edge `e` is its target index. -/
theorem dstCol_apply (v : IVec S160000 32) (j : S160000x1.Idx) (e : Fin 160000) (he : (j 0).val = e.val) : dstCol v j = v (ix1 e) :=
  broadcastInDim_apply _ _ _ j (ix1 e) fun a => by match a with | ⟨0, _⟩ => exact he.symm

/-- Where edge `e`'s weight of head `c` is added: at the node its target index names, if that is one. -/
theorem lands4 (v : IVec S160000 32) (j : S160000x4.Idx) (i : S10000x4.Idx) :
    scatter_S10000x4_S160000x1_S160000x4_1_0_0_1.resultIdx? j (dstCol v) = some i
      ↔ (v (ix1 (j 0))).toInt = ((i 0).val : Int) ∧ (j 1).val = (i 1).val := by
  rw [Routing.resultIdx?_eq_some]
  have h0 : scatter_S10000x4_S160000x1_S160000x4_1_0_0_1.start j (dstCol v) 0 = (v (ix1 (j 0))).toInt := by
    unfold ScatterDims.start
    rw [dif_pos (by decide), dstCol_apply v _ (j 0) rfl]
  have h1 : scatter_S10000x4_S160000x1_S160000x4_1_0_0_1.start j (dstCol v) 1 = 0 := by
    unfold ScatterDims.start
    rw [dif_neg (by decide)]
  have w0 : scatter_S10000x4_S160000x1_S160000x4_1_0_0_1.window j 0 = 0 := rfl
  have w1 : scatter_S10000x4_S160000x1_S160000x4_1_0_0_1.window j 1 = (j 1).val := rfl
  constructor
  · intro h
    have a0 := h 0
    have a1 := h 1
    rw [h0, w0] at a0
    rw [h1, w1] at a1
    exact ⟨by simpa using a0, by simpa using a1⟩
  · rintro ⟨a0, a1⟩
    refine Fin.forall_fin_two.2 ⟨?_, ?_⟩
    · rw [h0, w0, a0]; simp
    · rw [h1, w1, a1]; simp

/-- Where edge `e`'s row of head `c` is added: the node its target index names, if that is one. -/
theorem lands3 (v : IVec S160000 32) (j : S160000x4x256.Idx) (i : S10000x4x256.Idx)
    (h : scatter_S10000x4x256_S160000x1_S160000x4x256_12_0_0_1.resultIdx? j (dstCol v) = some i) :
    (v (ix1 (j 0))).toInt = ((i 0).val : Int) := by
  have a0 := (Routing.resultIdx?_eq_some _ _ _ _).1 h 0
  have h0 : scatter_S10000x4x256_S160000x1_S160000x4x256_12_0_0_1.start j (dstCol v) 0 = (v (ix1 (j 0))).toInt := by
    unfold ScatterDims.start
    rw [dif_pos (by decide), dstCol_apply v _ (j 0) rfl]
  have w0 : scatter_S10000x4x256_S160000x1_S160000x4x256_12_0_0_1.window j 0 = 0 := rfl
  rw [h0, w0] at a0
  simpa using a0

/-- An index that is a node as it stands is the node read. -/
theorem node_eq (v : IVec S160000 32) (e : Fin 160000) (n : Fin 10000) (h : (v (ix1 e)).toInt = (n.val : Int)) : node v e = n := by
  have hw : wrapWord (v (ix1 e)) = v (ix1 e) := by
    refine Routing.wrap_of_lt _ _ ?_
    have := BitVec.toInt_eq_toNat_cond (v (ix1 e))
    have := n.isLt
    have := (v (ix1 e)).isLt
    omega
  refine Fin.ext ?_
  show min (wrapWord (v (ix1 e))).toInt.toNat 9999 = n.val
  rw [hw, h]
  have := n.isLt
  omega

end Cert.KernelIdeal.Val
-- ==== Proof.RefLayer.lean ====
module

public import proofs.«01_k».proof.Proof.Gen.ReferenceIdeal.Run

/-! # What the reference computes

One layer of the reference in pieces, for any float values, and the reference's result as the second layer of the
first. -/

@[expose] public section

set_option maxRecDepth 8192

noncomputable section

namespace Cert.ReferenceIdeal.Ref

open Cert.ReferenceIdeal.Gen Cert.ReferenceIdeal.Value
open Idealize.ShloMosaic Idealize.ShloMosaic.TcCoe Idealize.ShloMosaic.StableHlo

variable {F : FTy → Type} [FloatOps F]

/-- The edges' source nodes: row 0 of the edge list. -/
def srcOf (e : IVec S2x160000 32) : IVec S160000 32 :=
  shapeCast S160000 (extractStridedSlice S1x160000 ![0, 0] e slices_S2x160000_S1x160000_0_0) shapeCasts_S1x160000_S160000

/-- The edges' target nodes: row 1 of the edge list. -/
def dstOf (e : IVec S2x160000 32) : IVec S160000 32 :=
  shapeCast S160000 (extractStridedSlice S1x160000 ![1, 0] e slices_S2x160000_S1x160000_1_0) shapeCasts_S1x160000_S160000

/-- Node indices as a column of index words, a negative one counted from the end. -/
def wrapNode (v : IVec S160000 32) : IVec S160000x1 32 :=
  broadcastInDim S160000x1 ![0] bcast_S160000_S160000x1_0
    (select (cmpi .slt v (broadcastInDim S160000 ![] bcast_S_S160000 (constantI S_ 32 0#32)))
      (addi v (broadcastInDim S160000 ![] bcast_S_S160000 (constantI S_ 32 10000#32))) v)

/-- `x · W` with its rows split into heads. -/
def heads (x : FVec F S10000x256 .f32) (W : FVec F S256x1024 .f32) : FVec F S10000x4x256 .f32 :=
  shapeCast S10000x4x256 (Host.dotGeneral dot_S10000x256_S256x1024_S10000x1024_1_0_0_1_n_n none x W) shapeCasts_S10000x1024_S10000x4x256

/-- Each node's inner product with an attention vector, per head. -/
def score (h : FVec F S10000x4x256 .f32) (a : FVec F S4x256 .f32) : FVec F S10000x4 .f32 :=
  Host.reduceAdd (mulf h (broadcastInDim S10000x4x256 ![0, 1, 2] bcast_S1x4x256_S10000x4x256_0_1_2
    (broadcastInDim S1x4x256 ![1, 2] bcast_S4x256_S1x4x256_1_2 a))) (constant S_ .f32 0x00000000#32) reducesTo_S10000x4x256_S10000x4_d2 h_S_

/-- A per-node, per-head value read at each edge's node. -/
def atNode4 (v : IVec S160000 32) (x : FVec F S10000x4 .f32) : FVec F S160000x4 .f32 :=
  Host.gather gather_S10000x4_S160000x1_S160000x4_1_0_n_n_0_1_14 x (wrapNode v)

/-- Each edge's attention logits, one per head. -/
def logits (h : FVec F S10000x4x256 .f32) (aS aD : FVec F S4x256 .f32) (src dst : IVec S160000 32) : FVec F S160000x4 .f32 :=
  addf (atNode4 src (score h aS)) (atNode4 dst (score h aD))

/-- The leaky rectifier: `z` where `z ≥ 0`, else `0.2·z`. -/
def leaky (z : FVec F S160000x4 .f32) : FVec F S160000x4 .f32 :=
  select (cmpf .oge z (broadcastInDim S160000x4 ![] bcast_S_S160000x4 (constant S_ .f32 0x00000000#32))) z
    (mulf (broadcastInDim S160000x4 ![] bcast_S_S160000x4 (id (constant S_ .f32 0x3E4CCCCD#32))) z)

/-- The greatest logit into each node, per head. -/
def segMax (dst : IVec S160000 32) (z : FVec F S160000x4 .f32) : FVec F S10000x4 .f32 :=
  Host.reduce FloatOps.maximumf (select
    (broadcastInDim S10000x160000x4 ![0, 1, 2] bcast_S10000x160000x1_S10000x160000x4_0_1_2
      (cmpi .eq (broadcastInDim S10000x160000x1 ![0, 1, 2] bcast_S1x160000x1_S10000x160000x1_0_1_2
        (broadcastInDim S1x160000x1 ![1] bcast_S160000_S1x160000x1_1 dst))
        (broadcastInDim S10000x160000x1 ![0, 1, 2] bcast_S10000x1x1_S10000x160000x1_0_1_2
          (broadcastInDim S10000x1x1 ![0] bcast_S10000_S10000x1x1_0 (iotaInDim S10000 32 0)))))
    (broadcastInDim S10000x160000x4 ![0, 1, 2] bcast_S1x160000x4_S10000x160000x4_0_1_2
      (broadcastInDim S1x160000x4 ![1, 2] bcast_S160000x4_S1x160000x4_1_2 z))
    (broadcastInDim S10000x160000x4 ![] bcast_S_S10000x160000x4 (id (constant S_ .f32 0xFF800000#32))))
    (constant S_ .f32 0xFF800000#32) reducesTo_S10000x160000x4_S10000x4_d1 h_S_

/-- A value where it is finite, else zero. -/
def orZero (x : FVec F S10000x4 .f32) : FVec F S10000x4 .f32 :=
  select (cmpf .olt (Host.absf x) (broadcastInDim S10000x4 ![] bcast_S_S10000x4 (constant S_ .f32 0x7F800000#32))) x
    (broadcastInDim S10000x4 ![] bcast_S_S10000x4 (id (constant S_ .f32 0x00000000#32)))

/-- The weights, shifted by a value per target node: `exp (z − μ)`. -/
def weights (dst : IVec S160000 32) (z : FVec F S160000x4 .f32) (μ : FVec F S10000x4 .f32) : FVec F S160000x4 .f32 :=
  Host.exp (subf z (atNode4 dst μ))

/-- The sum per target node of a weight per edge and head. -/
def segSum4 (dst : IVec S160000 32) (w : FVec F S160000x4 .f32) : FVec F S10000x4 .f32 :=
  Host.scatterAdd scatter_S10000x4_S160000x1_S160000x4_1_0_0_1
    (broadcastInDim S10000x4 ![] bcast_S_S10000x4 (constant S_ .f32 0x00000000#32))
    (broadcastInDim S160000x1 ![0] bcast_S160000_S160000x1_0 dst) w

/-- The attention shifted by `μ`: the weights over the target's sum of them plus the guard, shifted alike. -/
def attn (dst : IVec S160000 32) (z : FVec F S160000x4 .f32) (μ : FVec F S10000x4 .f32) : FVec F S160000x4 .f32 :=
  Host.divf (weights dst z μ) (addf (atNode4 dst (segSum4 dst (weights dst z μ)))
    (mulf (broadcastInDim S160000x4 ![] bcast_S_S160000x4 (constant S_ .f32 0x24E69595#32)) (Host.exp (Host.negf (atNode4 dst μ)))))

/-- The aggregation: each edge's source row per head, weighted, summed per target and averaged over the heads. -/
def aggregate (h : FVec F S10000x4x256 .f32) (src dst : IVec S160000 32) (w : FVec F S160000x4 .f32) : FVec F S10000x256 .f32 :=
  Host.divf (Host.reduceAdd
    (Host.scatterAdd scatter_S10000x4x256_S160000x1_S160000x4x256_12_0_0_1
      (broadcastInDim S10000x4x256 ![] bcast_S_S10000x4x256 (constant S_ .f32 0x00000000#32))
      (broadcastInDim S160000x1 ![0] bcast_S160000_S160000x1_0 dst)
      (mulf (Host.gather gather_S10000x4x256_S160000x1_S160000x4x256_12_0_n_n_0_1_14256 h (wrapNode src))
        (broadcastInDim S160000x4x256 ![0, 1, 2] bcast_S160000x4x1_S160000x4x256_0_1_2
          (broadcastInDim S160000x4x1 ![0, 1] bcast_S160000x4_S160000x4x1_0_1 w))))
    (constant S_ .f32 0x00000000#32) reducesTo_S10000x4x256_S10000x256_d1 h_S_)
    (broadcastInDim S10000x256 ![] bcast_S_S10000x256 (constant S_ .f32 0x40800000#32))

/-- A vector laid along every row. -/
def rows (v : FVec F S256 .f32) : FVec F S10000x256 .f32 :=
  broadcastInDim S10000x256 ![0, 1] bcast_S1x256_S10000x256_0_1 (broadcastInDim S1x256 ![1] bcast_S256_S1x256_1 v)

/-- The column sums. -/
def colSum (x : FVec F S10000x256 .f32) : FVec F S256 .f32 :=
  Host.reduceAdd x (constant S_ .f32 0x00000000#32) reducesTo_S10000x256_S256_d0 h_S_

/-- The rows less the column means, as the variance computes them. -/
def centred (x : FVec F S10000x256 .f32) : FVec F S10000x256 .f32 :=
  subf x (broadcastInDim S10000x256 ![0, 1] bcast_S1x256_S10000x256_0_1
    (Host.divf (broadcastInDim S1x256 ![1] bcast_S256_S1x256_1 (colSum x)) (broadcastInDim S1x256 ![] bcast_S_S1x256 (constant S_ .f32 0x461C4000#32))))

/-- The number of rows less the zero degrees of freedom given up. -/
def rowCount : FVec F S_ .f32 := subf (constant S_ .f32 0x461C4000#32) (sitofp .f32 (constantI S_ 32 0#32))

/-- The column variances. -/
def variance (x : FVec F S10000x256 .f32) : FVec F S256 .f32 :=
  select (broadcastInDim S256 ![] bcast_S_S256 (cmpf .ogt rowCount (constant (F := F) S_ .f32 0x00000000#32)))
    (Host.divf (colSum (mulf (centred x) (centred x))) (broadcastInDim S256 ![] bcast_S_S256 rowCount))
    (broadcastInDim S256 ![] bcast_S_S256 (id (constant S_ .f32 0x7FC00000#32)))

/-- Batch normalization, rectifier and residual. -/
def norm (x : FVec F S10000x256 .f32) (g be : FVec F S256 .f32) (r : FVec F S10000x256 .f32) : FVec F S10000x256 .f32 :=
  addf (maximumf (addf (Host.divf (mulf (rows g) (subf x (rows (Host.divf (colSum x) (broadcastInDim S256 ![] bcast_S_S256 (constant S_ .f32 0x461C4000#32))))))
    (rows (Host.sqrt (addf (variance x) (broadcastInDim S256 ![] bcast_S_S256 (constant S_ .f32 0x3727C5AC#32))))))
    (rows be)) (broadcastInDim S10000x256 ![] bcast_S_S10000x256 (constant S_ .f32 0x00000000#32))) r

/-- One layer of the reference. -/
def rLayer (x : FVec F S10000x256 .f32) (src dst : IVec S160000 32) (W : FVec F S256x1024 .f32) (aS aD : FVec F S4x256 .f32)
    (b g be : FVec F S256 .f32) : FVec F S10000x256 .f32 :=
  let h := heads x W
  let z := leaky (logits h aS aD src dst)
  norm (addf (aggregate h src dst (attn dst z (orZero (segMax dst z)))) (rows b)) g be x

variable (V : Valuation τ sig (Elt F))

/-- The first layer's result among the reference's named terms. -/
theorem layer1 : res_main_v114 V = rLayer (F := F) (V (Proc.devRef .tc main_arg0)) (srcOf (V (Proc.devRef .tc main_arg1)))
    (dstOf (V (Proc.devRef .tc main_arg1))) (V (Proc.devRef .tc main_arg2)) (V (Proc.devRef .tc main_arg3)) (V (Proc.devRef .tc main_arg4))
    (V (Proc.devRef .tc main_arg5)) (V (Proc.devRef .tc main_arg6)) (V (Proc.devRef .tc main_arg7)) := rfl

variable (m : (ℓ : Loc nD τ sig) → Buf (Elt F) ℓ) (ρ : Dev nD → PrngReg)

open Idealize.SL.Sem in
/-- The reference's run: the result array at the second layer of the first, the arguments unchanged. -/
theorem run : θ_run defs (onTc (τ := τ) (main (F := F))) ⟨m, fun _ => 0, ρ⟩ fun r => ∀ c : Dev nD,
      r.2.mem ((c.tc : Thread nD τ).loc main_v225)
        = rLayer (F := F)
            (rLayer (F := F) (m ((c.tc : Thread nD τ).loc main_arg0)) (srcOf (m ((c.tc : Thread nD τ).loc main_arg1))) (dstOf (m ((c.tc : Thread nD τ).loc main_arg1)))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)))
            (srcOf (m ((c.tc : Thread nD τ).loc main_arg1))) (dstOf (m ((c.tc : Thread nD τ).loc main_arg1)))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (by rw [layer1]; rfl), (h c).2⟩) (Cert.ReferenceIdeal.Value.run m ρ)

end Cert.ReferenceIdeal.Ref
-- ==== Proof.Logits.lean ====
module

public import proofs.«01_k».proof.Proof.Amat
public import proofs.«01_k».proof.Proof.Edges
public import proofs.«01_k».proof.Proof.RefLayer
public import Idealize.ShloMosaic.Lib.StackMember
public import Idealize.ShloMosaic.Lib.IdealHost

/-! # The attention logits agree

The kernel's product with the attention matrix, read four columns at a time at an edge's nodes, is the reference's
inner product of each head with its attention vector, read at the same nodes. -/

@[expose] public section

noncomputable section

namespace Cert.Equation

open Cert.KernelIdeal Cert.KernelIdeal.Gen Cert.KernelIdeal.Val
open Cert.ReferenceIdeal (Ref.heads Ref.score Ref.logits)
open Idealize.ShloMosaic Idealize.ShloMosaic.ValueIdx
open scoped BigOperators

/-- The product of the rows with the weights is the host's. -/
theorem heads_eq (x : FVec Ideal S10000x256 .f32) (W : FVec Ideal S256x1024 .f32) : heads (denseH x W) = Ref.heads (F := Ideal) x W := by
  unfold heads Ref.heads
  refine congrArg (fun h => shapeCast S10000x4x256 h shapeCasts_S10000x1024_S10000x4x256) (funext fun i => ?_)
  rw [eq_ix2 i]
  exact (StackMember.dotGeneral_plain_apply (m := 10000) (k := 256) (n := 1024) none x W (i 0) (i 1)).symm

/-- A row split into heads. -/
theorem heads_apply (h : FVec Ideal S10000x1024 .f32) (n : Fin 10000) (c : Fin 4) (d : Fin 256) : heads h (ix3 n c d) = h (ix2 n (col c d)) := by
  refine shapeCast_apply _ _ _ _ ?_
  rw [Shape.rowMajor_val_two, Shape.rowMajor_val_three]
  show n.val * 1024 + (256 * c.val + d.val) = (n.val * 4 + c.val) * 256 + d.val
  omega

/-- The reference's inner product of each head with its attention vector. -/
theorem score_apply (h : FVec Ideal S10000x4x256 .f32) (a : FVec Ideal S4x256 .f32) (n : Fin 10000) (c : Fin 4) :
    Ref.score h a (ix2 n c) = ∑ d : Fin 256, h (ix3 n c d) * a (ix2 c d) := by
  have hr : S10000x4x256.Reduces [2] S10000x4 := by decide
  unfold Ref.score
  rw [hostReduceAdd_apply, Ideal.hostReduceAdd_single _ hr]
  refine (congrArg (· + _) Ideal.ofBits_zero_f32).trans ((zero_add _).trans (Finset.sum_congr rfl fun d _ => ?_))
  have hl : hr.lift (ix2 n c) d = ix3 n c d := by
    funext b; refine Fin.ext ?_
    match b with
    | ⟨0, _⟩ => rfl
    | ⟨1, _⟩ => rfl
    | ⟨2, _⟩ => rfl
  rw [hl]
  refine congrArg (h (ix3 n c d) * ·) ((broadcastInDim_apply _ _ _ _ (ix3 0 c d) fun b => ?_).trans
    (broadcastInDim_apply _ _ _ _ (ix2 c d) fun b => ?_))
  · match b with
    | ⟨0, _⟩ => rfl
    | ⟨1, _⟩ => rfl
    | ⟨2, _⟩ => rfl
  · match b with
    | ⟨0, _⟩ => rfl
    | ⟨1, _⟩ => rfl

/-- The logits of one edge and head agree. -/
theorem logits_apply (h : FVec Ideal S10000x1024 .f32) (aS aD : FVec Ideal S4x256 .f32) (src dst : IVec S160000 32) (e : Fin 160000) (c : Fin 4) :
    logits (denseA h (amat aS aD)) src dst (ix2 e c) = Ref.logits (F := Ideal) (heads h) aS aD src dst (ix2 e c) := by
  have hs : ∀ (a : FVec Ideal S4x256 .f32) (n : Fin 10000), ∑ d : Fin 256, h (ix2 n (col c d)) * a (ix2 c d) = Ref.score (heads h) a (ix2 n c) :=
    fun a n => by
      rw [score_apply]
      exact Finset.sum_congr rfl fun d _ => by rw [heads_apply]
  refine congrArg₂ (· + ·) ?_ ?_
  · exact (gather8_apply 0#32 (by decide) src _ e c).trans ((denseA_src h aS aD _ c _ (Nat.zero_add _)).trans
      ((hs aS _).trans (atNode4_apply src (Ref.score (heads h) aS) e c).symm))
  · exact (gather8_apply 4#32 (by decide) dst _ e c).trans ((denseA_dst h aS aD _ c _ (Nat.add_comm _ _)).trans
      ((hs aD _).trans (atNode4_apply dst (Ref.score (heads h) aD) e c).symm))

/-- The logits agree. -/
theorem logits_eq (h : FVec Ideal S10000x1024 .f32) (aS aD : FVec Ideal S4x256 .f32) (src dst : IVec S160000 32) :
    logits (denseA h (amat aS aD)) src dst = Ref.logits (F := Ideal) (heads h) aS aD src dst := by
  funext j
  rw [eq_ix2 j]
  exact logits_apply h aS aD src dst (j 0) (j 1)

end Cert.Equation
-- ==== Proof.Softmax.lean ====
module

public import Idealize.ShloMosaic.PureOps.Ideal.Laws
public import Idealize.ShloMosaic.Lib.IdealHost

/-! # Shifting a softmax over the extended reals

For a real shift `μ`, `exp (z − μ) = exp z · exp (−μ)` at every extended real `z`; a positive real factor comes out
of a sum of weights and cancels between a quotient's two sides. -/

@[expose] public section

noncomputable section

namespace Cert.Softmax

open Idealize.ShloMosaic
open scoped BigOperators

/-- An exponential is not negative. -/
theorem exp_nonneg (z : EReal) : 0 ≤ Ideal.exp z := by
  induction z with
  | bot => exact le_refl _
  | top => exact le_top
  | coe r => exact EReal.coe_nonneg.2 (Real.exp_pos r).le

/-- The exponential of a shifted value. -/
theorem exp_sub (z : EReal) (μ : ℝ) : Ideal.exp (z - (μ : EReal)) = Ideal.exp z * ((Real.exp (-μ) : ℝ) : EReal) := by
  induction z with
  | bot =>
    rw [EReal.bot_sub]
    show (0 : EReal) = 0 * _
    rw [zero_mul]
  | top =>
    rw [EReal.top_sub_coe]
    exact (EReal.top_mul_coe_of_pos (Real.exp_pos _)).symm
  | coe r =>
    rw [← EReal.coe_sub]
    show ((Real.exp (r - μ) : ℝ) : EReal) = ((Real.exp r : ℝ) : EReal) * _
    rw [← EReal.coe_mul, sub_eq_add_neg, Real.exp_add]

/-- A factor comes out of a sum of values that are not negative. -/
theorem sum_mul {ι : Type} (s : Finset ι) (f : ι → EReal) (hf : ∀ i, 0 ≤ f i) (c : EReal) :
    ∑ i ∈ s, f i * c = (∑ i ∈ s, f i) * c := by
  classical
  induction s using Finset.induction_on with
  | empty => rw [Finset.sum_empty, Finset.sum_empty, zero_mul]
  | insert a s ha ih =>
    rw [Finset.sum_insert ha, Finset.sum_insert ha, ih,
      EReal.right_distrib_of_nonneg (hf a) (Finset.sum_nonneg fun i _ => hf i)]

/-- A positive real factor cancels between a quotient's two sides. -/
theorem div_mul_mul (w d : EReal) {c : ℝ} (hc : 0 < c) (hd : d ≠ 0) :
    Ideal.div (w * (c : EReal)) (d * (c : EReal)) = Ideal.div w d := by
  have hc0 : (c : EReal) ≠ 0 := fun h => hc.ne' (EReal.coe_eq_zero.1 h)
  have hcc : (c : EReal) * (c : EReal)⁻¹ = 1 := by
    rw [← EReal.coe_inv, ← EReal.coe_mul, mul_inv_cancel₀ hc.ne', EReal.coe_one]
  unfold Ideal.div
  rw [if_neg hd, if_neg (mul_ne_zero hd hc0), EReal.mul_inv, mul_mul_mul_comm, hcc, mul_one]

/-- The attention of one edge does not change under a real shift: with `S` the sum of the weights and `ε` a positive
    guard, `exp (z − μ) / (Σ exp (z' − μ) + ε·exp (−μ)) = exp z / (Σ exp z' + ε)`. -/
theorem attn_shift {ι : Type} (s : Finset ι) (f : ι → EReal) (z : EReal) (μ : ℝ) {ε : EReal} (hε : 0 < ε) :
    Ideal.div (Ideal.exp (z - (μ : EReal))) (∑ i ∈ s, Ideal.exp (f i - (μ : EReal)) + ε * Ideal.exp (-(μ : EReal)))
      = Ideal.div (Ideal.exp z) (∑ i ∈ s, Ideal.exp (f i) + ε) := by
  have hS : 0 ≤ ∑ i ∈ s, Ideal.exp (f i) := Finset.sum_nonneg fun i _ => exp_nonneg _
  have hn : Ideal.exp (-(μ : EReal)) = ((Real.exp (-μ) : ℝ) : EReal) := by
    rw [← EReal.coe_neg]; rfl
  rw [exp_sub, Finset.sum_congr rfl fun i _ => exp_sub (f i) μ, sum_mul s _ (fun i => exp_nonneg _), hn,
    ← EReal.right_distrib_of_nonneg hS hε.le]
  exact div_mul_mul _ _ (Real.exp_pos _) (lt_of_lt_of_le hε (le_add_of_nonneg_left hS)).ne'

end Cert.Softmax
-- ==== Proof.Attention.lean ====
module

public import proofs.«01_k».proof.Proof.Softmax
public import proofs.«01_k».proof.Proof.Edges
public import proofs.«01_k».proof.Proof.RefLayer
public import Idealize.ShloMosaic.Lib.IdealHost

/-! # The edge phase agrees

The reference shifts each softmax by a real number per target node and head, and its guard with it; the kernel
shifts by nothing. On an edge that adds to a node the two attentions are equal, whatever the shift. Edges that add
to no node do not matter, so the aggregations are equal. -/

@[expose] public section

set_option maxRecDepth 8192

noncomputable section

namespace Cert.Equation

open Cert.KernelIdeal Cert.KernelIdeal.Gen Cert.KernelIdeal.Val
open Cert.ReferenceIdeal (Ref.heads Ref.score Ref.logits Ref.attn Ref.weights Ref.atNode4 Ref.segSum4 Ref.aggregate Ref.orZero)
open Idealize.ShloMosaic Idealize.ShloMosaic.ValueIdx
open scoped BigOperators

/-- The guard is positive. -/
theorem guard_pos : (0 : EReal) < Ideal.ofBits .f32 0x24E69595#32 := by
  have h : Ideal.ofBits .f32 0x24E69595#32 = ((15111573 * (2 ^ 77)⁻¹ : ℝ) : EReal) := by
    simp [Ideal.ofBits, Ideal.ieee]
  rw [h]
  exact EReal.coe_pos.2 (by positivity)

/-- The bound the finiteness test compares with. -/
theorem inf_eq : Ideal.ofBits .f32 0x7F800000#32 = ⊤ := by
  simp [Ideal.ofBits, Ideal.ieee]

/-- A value put to zero where it is not finite is a real number. -/
theorem orZero_real (x : FVec Ideal S10000x4 .f32) (i : S10000x4.Idx) : ∃ r : ℝ, Ref.orZero x i = (r : EReal) := by
  have h0 : Ref.orZero x i = if max (x i) (-(x i)) < (⊤ : EReal) then x i else (0 : EReal) := by
    show Scalar.select (BitVec.ofBool (decide (max (x i) (-(x i)) < Ideal.ofBits .f32 0x7F800000#32))) (x i) (Ideal.ofBits .f32 0x00000000#32) = _
    rw [inf_eq, Ideal.ofBits_zero_f32]
    unfold Scalar.select
    by_cases h : max (x i) (-(x i)) < (⊤ : EReal)
    · simp [h]
    · simp [h]
  rw [h0]
  split
  · next h =>
    refine ⟨(x i).toReal, (EReal.coe_toReal (fun e => ?_) fun e => ?_).symm⟩
    · rw [e] at h; simp at h
    · rw [e] at h; simp at h
  · exact ⟨0, rfl⟩

/-- A scattered sum at an entry: the entry of the array added to, plus every update that lands there. -/
theorem scatterAdd_apply {s si u : Shape} {φ : FTy} {w : Nat} (d : ScatterDims s si u) (x : FVec Ideal s φ) (idx : IVec si w) (upd : FVec Ideal u φ) (i : s.Idx) :
    Host.scatterAdd d x idx upd i = x i + ∑ j ∈ Finset.univ.filter (fun j => d.resultIdx? j idx = some i), upd j := rfl

/-- A sum per target node, entry by entry. -/
theorem segSum4_apply (dst : IVec S160000 32) (w : FVec Ideal S160000x4 .f32) (i : S10000x4.Idx) :
    segSum4 dst w i = ∑ j ∈ Finset.univ.filter (fun j => scatter_S10000x4_S160000x1_S160000x4_1_0_0_1.resultIdx? j (dstCol dst) = some i), w j := by
  unfold segSum4
  rw [scatterAdd_apply, broadcastInDim_scalar_apply, show constant (F := Ideal) S_ .f32 0x00000000#32 ix0 = 0 from Ideal.ofBits_zero_f32, zero_add]
  rfl

/-- The reference's quotient at an entry. -/
theorem quotient_apply {s : Shape} (a b k m : FVec Ideal s .f32) (j : s.Idx) :
    Host.divf a (addf b (mulf k (Host.exp (Host.negf m)))) j = Ideal.div (a j) (b j + k j * Ideal.exp (-(m j))) := rfl

/-- The kernel's quotient at an entry. -/
theorem guarded_apply {s : Shape} (a b k : FVec Ideal s .f32) (j : s.Idx) : Host.divf a (addf b k) j = Ideal.div (a j) (b j + k j) := rfl

/-- Both programs read a node's value at an edge the same way. -/
theorem refAtNode4 (v : IVec S160000 32) (x : FVec Ideal S10000x4 .f32) : Ref.atNode4 v x = atNode4 v x := rfl

/-- Both programs sum per target node the same way. -/
theorem refSegSum4 (v : IVec S160000 32) (w : FVec Ideal S160000x4 .f32) : Ref.segSum4 v w = segSum4 v w := rfl

/-- The reference's attention on an edge that adds to node `n` is the kernel's, for any real shift. -/
theorem attn_apply (dst : IVec S160000 32) (z : FVec Ideal S160000x4 .f32) (μ : FVec Ideal S10000x4 .f32) (hμ : ∀ i, ∃ r : ℝ, μ i = (r : EReal))
    (e : Fin 160000) (c : Fin 4) (n : Fin 10000) (hn : (dst (ix1 e)).toInt = (n.val : Int)) :
    Ref.attn dst z μ (ix2 e c) = attn (F := Ideal) dst z (ix2 e c) := by
  obtain ⟨r, hr⟩ := hμ (ix2 n c)
  have hat : ∀ x : FVec Ideal S10000x4 .f32, atNode4 dst x (ix2 e c) = x (ix2 n c) := fun x => by rw [atNode4_apply, node_eq dst e n hn]
  have hw : ∀ j : S160000x4.Idx, scatter_S10000x4_S160000x1_S160000x4_1_0_0_1.resultIdx? j (dstCol dst) = some (ix2 n c) →
      Ref.weights dst z μ j = Ideal.exp (z j - (r : EReal)) := fun j hj => by
    obtain ⟨h0, h1⟩ := (lands4 dst j (ix2 n c)).1 hj
    rw [← hr]
    refine congrArg (fun y => Ideal.exp (z j - y)) ?_
    have hj' : j = ix2 (j 0) c := by
      rw [eq_ix2 j]; exact congrArg (ix2 (j 0)) (Fin.ext h1)
    rw [hj']
    exact (atNode4_apply dst μ (j 0) c).trans (congrArg (fun k => μ (ix2 k c)) (node_eq dst (j 0) n h0))
  have hsum : segSum4 dst (Ref.weights dst z μ) (ix2 n c)
      = ∑ j ∈ Finset.univ.filter (fun j => scatter_S10000x4_S160000x1_S160000x4_1_0_0_1.resultIdx? j (dstCol dst) = some (ix2 n c)), Ideal.exp (z j - (r : EReal)) := by
    rw [segSum4_apply]
    exact Finset.sum_congr rfl fun j hj => hw j (Finset.mem_filter.1 hj).2
  have hL : Ref.attn dst z μ (ix2 e c) = Ideal.div (Ideal.exp (z (ix2 e c) - Ref.atNode4 dst μ (ix2 e c)))
      (Ref.atNode4 dst (Ref.segSum4 dst (Ref.weights dst z μ)) (ix2 e c)
        + Ideal.ofBits .f32 0x24E69595#32 * Ideal.exp (-(Ref.atNode4 dst μ (ix2 e c)))) :=
    quotient_apply (Ref.weights dst z μ) _ _ _ _
  rw [refSegSum4, refAtNode4, refAtNode4] at hL
  have hR : attn dst z (ix2 e c) = Ideal.div (Ideal.exp (z (ix2 e c)))
      (atNode4 dst (segSum4 dst (Host.exp z)) (ix2 e c) + Ideal.ofBits .f32 0x24E69595#32) :=
    guarded_apply (Host.exp z) _ _ _
  rw [hL, hR, hat, hat, hat, hsum, hr, segSum4_apply]
  exact Softmax.attn_shift _ _ _ _ guard_pos

/-- The two aggregations agree on attentions that agree on every edge adding to a node. -/
theorem aggregate_congr (h : FVec Ideal S10000x4x256 .f32) (src dst : IVec S160000 32) (w w' : FVec Ideal S160000x4 .f32)
    (hw : ∀ (e : Fin 160000) (c : Fin 4) (n : Fin 10000), (dst (ix1 e)).toInt = (n.val : Int) → w (ix2 e c) = w' (ix2 e c)) :
    Ref.aggregate h src dst w = aggregate h src dst w' := by
  refine Eq.trans (b := aggregate h src dst w) rfl ?_
  unfold aggregate
  refine congrArg (fun s => Host.divf (Host.reduceAdd s _ reducesTo_S10000x4x256_S10000x256_d1 h_S_) _) (funext fun i => ?_)
  rw [scatterAdd_apply, scatterAdd_apply]
  refine congrArg (_ + ·) (Finset.sum_congr rfl fun j hj => ?_)
  have hn := lands3 dst j i (Finset.mem_filter.1 hj).2
  refine congrArg (_ * ·) ?_
  have hb : ∀ y : FVec Ideal S160000x4 .f32, broadcastInDim S160000x4x256 ![0, 1, 2] bcast_S160000x4x1_S160000x4x256_0_1_2
      (broadcastInDim S160000x4x1 ![0, 1] bcast_S160000x4_S160000x4x1_0_1 y) j = y (ix2 (j 0) (j 1)) := fun y => by
    refine (broadcastInDim_apply _ _ _ _ (ix3 (j 0) (j 1) 0) fun b => ?_).trans (broadcastInDim_apply _ _ _ _ (ix2 (j 0) (j 1)) fun b => ?_)
    · match b with
      | ⟨0, _⟩ => rfl
      | ⟨1, _⟩ => rfl
      | ⟨2, _⟩ => rfl
    · match b with
      | ⟨0, _⟩ => rfl
      | ⟨1, _⟩ => rfl
  exact (hb w).trans ((hw (j 0) (j 1) (i 0) hn).trans (hb w').symm)

/-- The edge phases agree, whatever real shift the reference takes. -/
theorem edgePhase_eq (h : FVec Ideal S10000x1024 .f32) (src dst : IVec S160000 32) (z : FVec Ideal S160000x4 .f32) (x : FVec Ideal S10000x4 .f32) :
    Ref.aggregate (heads h) src dst (Ref.attn dst z (Ref.orZero x)) = edgePhase (F := Ideal) h src dst z :=
  aggregate_congr _ src dst _ _ fun e c n hn => attn_apply dst z _ (orZero_real x) e c n hn

end Cert.Equation
-- ==== Proof.Norm.lean ====
module

public import proofs.«01_k».proof.Proof.Layer
public import proofs.«01_k».proof.Proof.RefLayer
public import Idealize.ShloMosaic.Lib.IdealHost
public import Idealize.ShloMosaic.Lib.KernelVsHost
public import Idealize.ShloMosaic.Lib.ValueIdxCore
public import Idealize.ShloMosaic.Lib.Pipeline.Value
public import Idealize.ShloMosaic.PureOps.Ideal.Laws

/-! # The normalization agrees

The kernel's second call adds the bias, normalizes each column by its mean and variance, scales, shifts, rectifies
and adds the residual; the reference does the same on the host. Both are read at an entry as one formula. -/

@[expose] public section

noncomputable section

namespace Cert.Equation

open Cert.KernelIdeal Cert.KernelIdeal.Gen Cert.KernelIdeal.Val
open Cert.ReferenceIdeal.Gen (bcast_S_S256)
open Cert.ReferenceIdeal (Ref.rows Ref.colSum Ref.centred Ref.rowCount Ref.variance Ref.norm)
open Idealize.ShloMosaic Idealize.ShloMosaic.ValueIdx
open scoped BigOperators

/-- The number of rows. -/
def count : EReal := Ideal.ofBits .f32 0x461C4000#32

/-- A column's sum. -/
def sumAt (x : FVec Ideal S10000x256 .f32) (q : Fin 256) : EReal := ∑ n : Fin 10000, x (ix2 n q)

/-- A column's mean. -/
def meanAt (x : FVec Ideal S10000x256 .f32) (q : Fin 256) : EReal := Ideal.div (sumAt x q) count

/-- An entry's square distance to its column's mean. -/
def sqAt (x : FVec Ideal S10000x256 .f32) : FVec Ideal S10000x256 .f32 :=
  fun i => (x i - meanAt x (i 1)) * (x i - meanAt x (i 1))

/-- The normalized, rectified entry plus the residual. -/
def normAt (x : FVec Ideal S10000x256 .f32) (g be : FVec Ideal S256 .f32) (r : FVec Ideal S10000x256 .f32) (n : Fin 10000) (q : Fin 256) : EReal :=
  max (Ideal.div (g (ix1 q) * (x (ix2 n q) - meanAt x q)) (Ideal.sqrt (Ideal.div (sumAt (sqAt x) q) count + Ideal.ofBits .f32 0x3727C5AC#32))
    + be (ix1 q)) 0 + r (ix2 n q)

/-! ## The reference -/

/-- A vector laid along every row, at an entry. -/
theorem rows_apply (v : FVec Ideal S256 .f32) (n : Fin 10000) (q : Fin 256) : Ref.rows v (ix2 n q) = v (ix1 q) := by
  refine (broadcastInDim_apply _ _ _ _ (ix2 0 q) fun b => ?_).trans (broadcastInDim_apply _ _ _ _ (ix1 q) fun b => ?_)
  · match b with
    | ⟨0, _⟩ => rfl
    | ⟨1, _⟩ => rfl
  · match b with
    | ⟨0, _⟩ => rfl

/-- Column `q` of the rows, in the place a reduction names. -/
theorem lift_eq (h : S10000x256.Reduces [0] S256) (q : Fin 256) (n : Fin 10000) : h.lift (ix1 q) n = ix2 n q := by
  funext b; refine Fin.ext ?_
  match b with
  | ⟨0, _⟩ => rfl
  | ⟨1, _⟩ => rfl

/-- The reference's column sum is the sum of the column's entries. -/
theorem colSum_apply (x : FVec Ideal S10000x256 .f32) (q : Fin 256) : Ref.colSum x (ix1 q) = sumAt x q := by
  have hr : S10000x256.Reduces [0] S256 := by decide
  unfold Ref.colSum
  rw [hostReduceAdd_apply, Ideal.hostReduceAdd_single _ hr]
  refine (congrArg (· + _) Ideal.ofBits_zero_f32).trans ((zero_add _).trans (Finset.sum_congr rfl fun n _ => congrArg x (lift_eq hr q n)))

/-- The number of rows as the word the kernel divides by: ten thousand. -/
theorem count_eq : count = ((10000 : ℝ) : EReal) := by
  unfold count
  have h : Ideal.ofBits .f32 0x461C4000#32 = ((10240000 * (2 ^ 10)⁻¹ : ℝ) : EReal) := by
    simp [Ideal.ofBits, Ideal.ieee]
  rw [h]
  norm_num

/-- The reference's divisor of the variance is the number of rows. -/
theorem rowCount_eq (i : S_.Idx) : Ref.rowCount (F := Ideal) i = count := by
  show count - Scalar.sitofp (F := Ideal) .f32 0#32 = count
  rw [sitofp_zero, sub_zero]

/-- An entry less its column's mean. -/
theorem centred_apply (x : FVec Ideal S10000x256 .f32) (n : Fin 10000) (q : Fin 256) : Ref.centred x (ix2 n q) = x (ix2 n q) - meanAt x q := by
  refine congrArg (x (ix2 n q) - ·) ?_
  refine (broadcastInDim_apply _ _ _ _ (ix2 0 q) fun b => ?_).trans ?_
  · match b with
    | ⟨0, _⟩ => rfl
    | ⟨1, _⟩ => rfl
  · refine congrArg (Ideal.div · count) ((broadcastInDim_apply _ _ _ _ (ix1 q) fun b => ?_).trans (colSum_apply x q))
    match b with
    | ⟨0, _⟩ => rfl

/-- Columns with equal entries have equal sums. -/
theorem sumAt_congr (x y : FVec Ideal S10000x256 .f32) (q : Fin 256) (h : ∀ n, x (ix2 n q) = y (ix2 n q)) : sumAt x q = sumAt y q :=
  Finset.sum_congr rfl fun n _ => h n

/-- The reference's variance: the mean of the square distances to the mean. -/
theorem variance_apply (x : FVec Ideal S10000x256 .f32) (q : Fin 256) : Ref.variance x (ix1 q) = Ideal.div (sumAt (sqAt x) q) count := by
  unfold Ref.variance
  rw [select_apply, broadcastInDim_scalar_apply]
  have hc : cmpf .ogt (Ref.rowCount (F := Ideal)) (constant (F := Ideal) S_ .f32 0x00000000#32) ix0 = 1#1 := by
    show BitVec.ofBool (decide (Ideal.ofBits .f32 0x00000000#32 < Ref.rowCount (F := Ideal) ix0)) = 1#1
    rw [rowCount_eq, count_eq, Ideal.ofBits_zero_f32, decide_eq_true (EReal.coe_pos.2 (by norm_num))]
    rfl
  rw [hc]
  have hs : sumAt (mulf (Ref.centred x) (Ref.centred x)) q = sumAt (sqAt x) q := sumAt_congr _ _ q fun n => by
    show Ref.centred x (ix2 n q) * Ref.centred x (ix2 n q) = _
    rw [centred_apply]
    rfl
  show Ideal.div (Ref.colSum (mulf (Ref.centred x) (Ref.centred x)) (ix1 q)) (broadcastInDim S256 ![] bcast_S_S256 (Ref.rowCount (F := Ideal)) (ix1 q)) = _
  rw [colSum_apply, hs, broadcastInDim_scalar_apply, rowCount_eq]

/-- The reference's normalization at an entry. -/
theorem refNorm_apply (x : FVec Ideal S10000x256 .f32) (g be : FVec Ideal S256 .f32) (r : FVec Ideal S10000x256 .f32) (n : Fin 10000) (q : Fin 256) :
    Ref.norm x g be r (ix2 n q) = normAt x g be r n q := by
  have h : Ref.norm x g be r (ix2 n q) = max (Ideal.div (Ref.rows g (ix2 n q) * (x (ix2 n q)
        - Ref.rows (Host.divf (Ref.colSum x) (broadcastInDim S256 ![] bcast_S_S256 (constant S_ .f32 0x461C4000#32))) (ix2 n q)))
      (Ref.rows (Host.sqrt (addf (Ref.variance x) (broadcastInDim S256 ![] bcast_S_S256 (constant S_ .f32 0x3727C5AC#32)))) (ix2 n q))
      + Ref.rows be (ix2 n q)) (Ideal.ofBits .f32 0x00000000#32) + r (ix2 n q) := rfl
  have hm : Host.divf (Ref.colSum x) (broadcastInDim S256 ![] bcast_S_S256 (constant (F := Ideal) S_ .f32 0x461C4000#32)) (ix1 q) = meanAt x q :=
    congrArg (Ideal.div · count) (colSum_apply x q)
  have hv : Host.sqrt (addf (Ref.variance x) (broadcastInDim S256 ![] bcast_S_S256 (constant (F := Ideal) S_ .f32 0x3727C5AC#32))) (ix1 q)
      = Ideal.sqrt (Ideal.div (sumAt (sqAt x) q) count + Ideal.ofBits .f32 0x3727C5AC#32) :=
    congrArg (fun v => Ideal.sqrt (v + Ideal.ofBits .f32 0x3727C5AC#32)) (variance_apply x q)
  rw [h, rows_apply, rows_apply, rows_apply, rows_apply, hm, hv, Ideal.ofBits_zero_f32]
  rfl

/-! ## The kernel -/

/-- A row laid along every row. -/
theorem rowTo_apply (y : FVec Ideal S1x256 .f32) (n : Fin 10000) (q : Fin 256) : broadcastTo S10000x256 y broadcasts_S1x256_S10000x256 (ix2 n q) = y (ix2 0 q) :=
  broadcastTo_apply _ _ _ _ fun b => by
    match b with
    | ⟨0, _⟩ => rfl
    | ⟨1, _⟩ => rfl

/-- A vector as one row. -/
theorem row_apply (v : FVec Ideal S256 .f32) (q : Fin 256) : shapeCast S1x256 v shapeCasts_S256_S1x256 (ix2 0 q) = v (ix1 q) := by
  refine shapeCast_apply _ _ _ _ ?_
  rw [Shape.rowMajor_val_two, Shape.rowMajor_val_one]
  show q.val = 0 * 256 + q.val
  omega

/-- The kernel's column sum is the sum of the column's entries. -/
theorem kSum_apply (x : FVec Ideal S10000x256 .f32) (q : Fin 256) :
    multiReduction .add [0] S256 x 0x00000000#32 reduces_S10000x256_S256 (.inl rfl) rfl (ix1 q) = sumAt x q :=
  (Ideal.multiReduction_add_single x _ reduces_S10000x256_S256 _ _ _).trans (Finset.sum_congr rfl fun n _ => congrArg x (lift_eq _ q n))

/-- The kernel's mean of a column. -/
theorem kMean_apply (x : FVec Ideal S10000x256 .f32) (q : Fin 256) :
    divf (shapeCast S1x256 (multiReduction .add [0] S256 x 0x00000000#32 reduces_S10000x256_S256 (.inl rfl) rfl) shapeCasts_S256_S1x256)
      (broadcast S1x256 (Scalar.ofBits (F := Ideal) .f32 0x461C4000#32)) (ix2 0 q) = meanAt x q :=
  congrArg (Ideal.div · count) ((row_apply _ q).trans (kSum_apply x q))

/-- The kernel's normalization at an entry. -/
theorem kNorm_apply (a : FVec Ideal S10000x256 .f32) (b g be : FVec Ideal S256 .f32) (r : FVec Ideal S10000x256 .f32) (n : Fin 10000) (q : Fin 256) :
    k1_pay1 (F := Ideal) a (row b) (row g) (row be) r (ix2 n q) = normAt (addf a (Ref.rows b)) g be r n q := by
  have hv : addf a (broadcastTo S10000x256 (row b) broadcasts_S1x256_S10000x256) = addf a (Ref.rows b) := by
    funext i
    rw [eq_ix2 i]
    exact congrArg (a (ix2 (i 0) (i 1)) + ·) ((rowTo_apply (row b) (i 0) (i 1)).trans ((row_apply b (i 1)).trans (rows_apply b (i 0) (i 1)).symm))
  unfold k1_pay1
  dsimp only
  simp only [shapeCast_self]
  rw [hv]
  generalize addf a (Ref.rows b) = x
  have hμ := fun p => kMean_apply x p
  generalize divf (shapeCast S1x256 (multiReduction .add [0] S256 x 0x00000000#32 reduces_S10000x256_S256 (.inl rfl) rfl) shapeCasts_S256_S1x256)
      (broadcast S1x256 (Scalar.ofBits (F := Ideal) .f32 0x461C4000#32)) = μ at hμ ⊢
  have hd : ∀ (n : Fin 10000) (p : Fin 256), subf x (broadcastTo S10000x256 μ broadcasts_S1x256_S10000x256) (ix2 n p) = x (ix2 n p) - meanAt x p :=
    fun n p => congrArg (x (ix2 n p) - ·) ((rowTo_apply μ n p).trans (hμ p))
  have hs : mulf (subf x (broadcastTo S10000x256 μ broadcasts_S1x256_S10000x256)) (subf x (broadcastTo S10000x256 μ broadcasts_S1x256_S10000x256)) = sqAt x := by
    funext i
    rw [eq_ix2 i]
    exact congrArg₂ (· * ·) (hd (i 0) (i 1)) (hd (i 0) (i 1))
  rw [hs]
  have hσ := kMean_apply (sqAt x) q
  generalize divf (shapeCast S1x256 (multiReduction .add [0] S256 (sqAt x) 0x00000000#32 reduces_S10000x256_S256 (.inl rfl) rfl) shapeCasts_S256_S1x256)
      (broadcast S1x256 (Scalar.ofBits (F := Ideal) .f32 0x461C4000#32)) = σ at hσ ⊢
  have hrow : ∀ v : FVec Ideal S256 .f32, broadcastTo S10000x256 (row v) broadcasts_S1x256_S10000x256 (ix2 n q) = v (ix1 q) :=
    fun v => (rowTo_apply (row v) n q).trans (row_apply v q)
  have hsq : broadcastTo S10000x256 (sqrt (addf σ (broadcast S1x256 (Scalar.ofBits (F := Ideal) .f32 0x3727C5AC#32)))) broadcasts_S1x256_S10000x256 (ix2 n q)
      = Ideal.sqrt (Ideal.div (sumAt (sqAt x) q) count + Ideal.ofBits .f32 0x3727C5AC#32) :=
    (rowTo_apply _ n q).trans (congrArg (fun v => Ideal.sqrt (v + Ideal.ofBits .f32 0x3727C5AC#32)) hσ)
  refine congrArg (· + r (ix2 n q)) (congrArg₂ max (congrArg₂ (· + ·) (congrArg₂ Ideal.div (congrArg₂ (· * ·) (hrow g) (hd n q)) hsq) (hrow be)) ?_)
  exact Ideal.ofBits_zero_f32

/-- The normalizations agree. -/
theorem norm_eq (a : FVec Ideal S10000x256 .f32) (b g be : FVec Ideal S256 .f32) (r : FVec Ideal S10000x256 .f32) :
    k1_pay1 (F := Ideal) a (row b) (row g) (row be) r = Ref.norm (addf a (Ref.rows b)) g be r := by
  funext i
  rw [eq_ix2 i]
  exact (kNorm_apply a b g be r (i 0) (i 1)).trans (refNorm_apply _ g be r (i 0) (i 1)).symm

end Cert.Equation
-- ==== Proof.HostReads.lean ====
module

public import proofs.«01_k».proof.Proof.Layer
public import Idealize.ShloMosaic.Lib.StableHlo.Run

/-! # What the kernel's host stretches leave in the buffers read later

From any buffer contents `V`, each stretch's results in terms of `V`: the first layer's stretches, then the
second's. -/

@[expose] public section

set_option maxRecDepth 8192

noncomputable section

namespace Cert.KernelIdeal.Val

open Cert.KernelIdeal.Gen

open Idealize.ShloMosaic Idealize.ShloMosaic.TcCoe Idealize.ShloMosaic.StableHlo

variable {F : FTy → Type} [FloatOps F]

/-- The first stretch leaves the edges' sources. -/
theorem ops0_src (V : Valuation τ sig (Elt F)) :
    after hostOps0 V (Proc.devRef .tc main_v1) = srcOf (V (Proc.devRef .tc main_arg1)) := by
  after_results_simp
  rfl

/-- The first stretch leaves the edges' targets. -/
theorem ops0_dst (V : Valuation τ sig (Elt F)) :
    after hostOps0 V (Proc.devRef .tc main_v3) = dstOf (V (Proc.devRef .tc main_arg1)) := by
  after_results_simp
  rfl

/-- The first layer's attention matrix. -/
theorem ops0_amat (V : Valuation τ sig (Elt F)) :
    after hostOps0 V (Proc.devRef .tc main_v48) = amat (F := F) (V (Proc.devRef .tc main_arg3)) (V (Proc.devRef .tc main_arg4)) := by
  after_results_simp
  rfl

/-- The first layer's logits. -/
theorem ops1_logits (V : Valuation τ sig (Elt F)) :
    after hostOps1 V (Proc.devRef .tc main_v68) = logits (F := F) (V (Proc.devRef .tc main_v49_1)) (V (Proc.devRef .tc main_v1)) (V (Proc.devRef .tc main_v3)) := by
  after_results_simp
  rfl

/-- Where the first layer's logits are not negative. -/
theorem ops1_sign (V : Valuation τ sig (Elt F)) :
    after hostOps1 V (Proc.devRef .tc main_v70) = cmpf .oge (logits (F := F) (V (Proc.devRef .tc main_v49_1)) (V (Proc.devRef .tc main_v1)) (V (Proc.devRef .tc main_v3))) (broadcastInDim S160000x4 ![] bcast_S_S160000x4 (constant S_ .f32 0x00000000#32)) := by
  after_results_simp
  rfl

/-- The first layer's logits, scaled. -/
theorem ops1_scaled (V : Valuation τ sig (Elt F)) :
    after hostOps1 V (Proc.devRef .tc main_v72) = mulf (broadcastInDim S160000x4 ![] bcast_S_S160000x4 (constant S_ .f32 0x3E4CCCCD#32)) (logits (F := F) (V (Proc.devRef .tc main_v49_1)) (V (Proc.devRef .tc main_v1)) (V (Proc.devRef .tc main_v3))) := by
  after_results_simp
  rfl

/-- The first layer's aggregation. -/
theorem ops1_2_agg (V : Valuation τ sig (Elt F)) :
    after hostOps1_2 V (Proc.devRef .tc main_v104) = edgePhase (F := F) (V (Proc.devRef .tc main_v49_0)) (V (Proc.devRef .tc main_v1)) (V (Proc.devRef .tc main_v3)) (V (Proc.devRef .tc main_v73)) := by
  after_results_simp
  rfl

/-- The first layer's `bias` as a row. -/
theorem ops1_2_bias (V : Valuation τ sig (Elt F)) :
    after hostOps1_2 V (Proc.devRef .tc main_v105) = row (F := F) (V (Proc.devRef .tc main_arg5)) := by
  after_results_simp
  rfl

/-- The first layer's `gamma` as a row. -/
theorem ops1_2_gamma (V : Valuation τ sig (Elt F)) :
    after hostOps1_2 V (Proc.devRef .tc main_v106) = row (F := F) (V (Proc.devRef .tc main_arg6)) := by
  after_results_simp
  rfl

/-- The first layer's `beta` as a row. -/
theorem ops1_2_beta (V : Valuation τ sig (Elt F)) :
    after hostOps1_2 V (Proc.devRef .tc main_v107) = row (F := F) (V (Proc.devRef .tc main_arg7)) := by
  after_results_simp
  rfl

/-- The first layer's leaky logits. -/
theorem ops1_leaky (V : Valuation τ sig (Elt F)) :
    after hostOps1_1 (after hostOps1 V) (Proc.devRef .tc main_v73) = leaky (F := F) (logits (F := F) (V (Proc.devRef .tc main_v49_1)) (V (Proc.devRef .tc main_v1)) (V (Proc.devRef .tc main_v3))) := by
  have h : ∀ U : Valuation τ sig (Elt F), after hostOps1_1 U (Proc.devRef .tc main_v73)
      = select (U (Proc.devRef .tc main_v70)) (U (Proc.devRef .tc main_v68)) (U (Proc.devRef .tc main_v72)) := fun U => rfl
  rw [h, ops1_sign, ops1_logits, ops1_scaled]
  rfl

/-- The second layer's attention matrix. -/
theorem ops2_amat (V : Valuation τ sig (Elt F)) :
    after hostOps2 V (Proc.devRef .tc main_v153) = amat (F := F) (V (Proc.devRef .tc main_arg9)) (V (Proc.devRef .tc main_arg10)) := by
  after_results_simp
  rfl

/-- The second layer's logits. -/
theorem ops3_logits (V : Valuation τ sig (Elt F)) :
    after hostOps3 V (Proc.devRef .tc main_v173) = logits (F := F) (V (Proc.devRef .tc main_v154_1)) (V (Proc.devRef .tc main_v1)) (V (Proc.devRef .tc main_v3)) := by
  after_results_simp
  rfl

/-- Where the second layer's logits are not negative. -/
theorem ops3_sign (V : Valuation τ sig (Elt F)) :
    after hostOps3 V (Proc.devRef .tc main_v175) = cmpf .oge (logits (F := F) (V (Proc.devRef .tc main_v154_1)) (V (Proc.devRef .tc main_v1)) (V (Proc.devRef .tc main_v3))) (broadcastInDim S160000x4 ![] bcast_S_S160000x4 (constant S_ .f32 0x00000000#32)) := by
  after_results_simp
  rfl

/-- The second layer's logits, scaled. -/
theorem ops3_scaled (V : Valuation τ sig (Elt F)) :
    after hostOps3 V (Proc.devRef .tc main_v177) = mulf (broadcastInDim S160000x4 ![] bcast_S_S160000x4 (constant S_ .f32 0x3E4CCCCD#32)) (logits (F := F) (V (Proc.devRef .tc main_v154_1)) (V (Proc.devRef .tc main_v1)) (V (Proc.devRef .tc main_v3))) := by
  after_results_simp
  rfl

/-- The second layer's aggregation. -/
theorem ops3_2_agg (V : Valuation τ sig (Elt F)) :
    after hostOps3_2 V (Proc.devRef .tc main_v209) = edgePhase (F := F) (V (Proc.devRef .tc main_v154_0)) (V (Proc.devRef .tc main_v1)) (V (Proc.devRef .tc main_v3)) (V (Proc.devRef .tc main_v178)) := by
  after_results_simp
  rfl

/-- The second layer's `bias` as a row. -/
theorem ops3_2_bias (V : Valuation τ sig (Elt F)) :
    after hostOps3_2 V (Proc.devRef .tc main_v210) = row (F := F) (V (Proc.devRef .tc main_arg11)) := by
  after_results_simp
  rfl

/-- The second layer's `gamma` as a row. -/
theorem ops3_2_gamma (V : Valuation τ sig (Elt F)) :
    after hostOps3_2 V (Proc.devRef .tc main_v211) = row (F := F) (V (Proc.devRef .tc main_arg12)) := by
  after_results_simp
  rfl

/-- The second layer's `beta` as a row. -/
theorem ops3_2_beta (V : Valuation τ sig (Elt F)) :
    after hostOps3_2 V (Proc.devRef .tc main_v212) = row (F := F) (V (Proc.devRef .tc main_arg13)) := by
  after_results_simp
  rfl

/-- The second layer's leaky logits. -/
theorem ops3_leaky (V : Valuation τ sig (Elt F)) :
    after hostOps3_1 (after hostOps3 V) (Proc.devRef .tc main_v178) = leaky (F := F) (logits (F := F) (V (Proc.devRef .tc main_v154_1)) (V (Proc.devRef .tc main_v1)) (V (Proc.devRef .tc main_v3))) := by
  have h : ∀ U : Valuation τ sig (Elt F), after hostOps3_1 U (Proc.devRef .tc main_v178)
      = select (U (Proc.devRef .tc main_v175)) (U (Proc.devRef .tc main_v173)) (U (Proc.devRef .tc main_v177)) := fun U => rfl
  rw [h, ops3_sign, ops3_logits, ops3_scaled]
  rfl

end Cert.KernelIdeal.Val
-- ==== Proof.Post.lean ====
module

public import proofs.«01_k».proof.Proof.Layer
public import proofs.«01_k».proof.Proof.Gen.KernelIdeal.Frame
public import Idealize.ShloMosaic.Lib.Pipeline.Value

/-! # The normalization call of a layer

It runs at one point on whole arrays: bias, batch normalization, rectifier and residual are one function
`k1_pay1` of the five arrays, which the result array holds after the call. -/

@[expose] public section

noncomputable section

namespace Cert.KernelIdeal.Val

open Cert.KernelIdeal.Gen

open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

/-- The zero offsets of a whole block. -/
theorem zeros2 : (![0, 0] : Fin 2 → Nat) = fun _ => 0 := funext fun a => by fin_cases a <;> rfl

/-- The second layer's call computes the same function. -/
theorem k3_pay1_eq (x : Vec F S10000x256 .f32) (b g be : Vec F S1x256 .f32) (r : Vec F S10000x256 .f32) :
    k3_pay1 x b g be r = k1_pay1 x b g be r := by
  unfold k3_pay1 k1_pay1
  dsimp only
  simp only [shapeCast_self]

/-! ## The first layer's call -/

/-- The first layer's normalization reads the aggregated rows whole. -/
theorem blk1_0 (c : Dev nD) (t : Fin cfg1.N) : (iblk1 V c 0 t : Vec F S10000x256 .f32) = V c main_v104 := by
  refine funext fun j => congrArg (V c main_v104) (funext fun a => Fin.ext ?_)
  match a with
  | ⟨0, _⟩ => show 0 * 10000 + 1 * (j 0).val = (j 0).val; omega
  | ⟨1, _⟩ => show 0 * 256 + 1 * (j 1).val = (j 1).val; omega

/-- The first layer's normalization reads the bias row whole. -/
theorem blk1_1 (c : Dev nD) (t : Fin cfg1.N) : (iblk1 V c 1 t : Vec F S1x256 .f32) = V c main_v105 := by
  refine funext fun j => congrArg (V c main_v105) (funext fun a => Fin.ext ?_)
  match a with
  | ⟨0, _⟩ => show 0 * 1 + 1 * (j 0).val = (j 0).val; omega
  | ⟨1, _⟩ => show 0 * 256 + 1 * (j 1).val = (j 1).val; omega

/-- The first layer's normalization reads the scale row whole. -/
theorem blk1_2 (c : Dev nD) (t : Fin cfg1.N) : (iblk1 V c 2 t : Vec F S1x256 .f32) = V c main_v106 := by
  refine funext fun j => congrArg (V c main_v106) (funext fun a => Fin.ext ?_)
  match a with
  | ⟨0, _⟩ => show 0 * 1 + 1 * (j 0).val = (j 0).val; omega
  | ⟨1, _⟩ => show 0 * 256 + 1 * (j 1).val = (j 1).val; omega

/-- The first layer's normalization reads the offset row whole. -/
theorem blk1_3 (c : Dev nD) (t : Fin cfg1.N) : (iblk1 V c 3 t : Vec F S1x256 .f32) = V c main_v107 := by
  refine funext fun j => congrArg (V c main_v107) (funext fun a => Fin.ext ?_)
  match a with
  | ⟨0, _⟩ => show 0 * 1 + 1 * (j 0).val = (j 0).val; omega
  | ⟨1, _⟩ => show 0 * 256 + 1 * (j 1).val = (j 1).val; omega

/-- The first layer's normalization reads the residual rows whole. -/
theorem blk1_4 (c : Dev nD) (t : Fin cfg1.N) : (iblk1 V c 4 t : Vec F S10000x256 .f32) = V c main_arg0 := by
  refine funext fun j => congrArg (V c main_arg0) (funext fun a => Fin.ext ?_)
  match a with
  | ⟨0, _⟩ => show 0 * 10000 + 1 * (j 0).val = (j 0).val; omega
  | ⟨1, _⟩ => show 0 * 256 + 1 * (j 1).val = (j 1).val; omega

/-- What the one point writes back: the whole function. -/
theorem flushed1_5 (c : Dev nD) (t : Fin cfg1.N) :
    (dat1 V c).flushed 5 t = (win1_5.blk t).view.read (Elt F) (k1_pay1 (V c main_v104) (V c main_v105) (V c main_v106) (V c main_v107) (V c main_arg0)) := by
  show (cfg1.win 5).cut (grid1.coords t) ((dat1 V c).after 5 t) = _
  rw [after1_5]
  unfold out1_5
  rw [View.canon_unit_zero zeros2]
  repeat rw [View.ld_unit_zero zeros2]
  rw [blk1_0, blk1_1, blk1_2, blk1_3, blk1_4]
  refine funext fun j => congrArg (k1_pay1 (V c main_v104) (V c main_v105) (V c main_v106) (V c main_v107) (V c main_arg0)) (funext fun a => Fin.ext ?_)
  match a with
  | ⟨0, _⟩ => show (j 0).val = 0 * 10000 + 1 * (j 0).val; omega
  | ⟨1, _⟩ => show (j 1).val = 0 * 256 + 1 * (j 1).val; omega

/-- The one block is the whole array. -/
theorem tiled1_5 (i : S10000x256.Idx) :
    ∃ t : Fin cfg1.N, (cfg1.win 5).flush t = true ∧ i ∈ ((cfg1.win 5).blk t).view.set := by
  have hN : cfg1.N = 1 := N_1
  have ht : 0 < cfg1.N := by omega
  refine ⟨⟨0, ht⟩, flush1_5 _, ?_⟩
  show i ∈ ((View.whole main_v108).slice (win1_5.rect ⟨0, ht⟩)).set
  rw [View.set_slice_whole, Rect.mem_set_unit]
  intro a
  match a with
  | ⟨0, _⟩ => show 0 * 10000 ≤ (i 0 : Nat) ∧ (i 0 : Nat) < 0 * 10000 + 10000
              have : (i 0 : Nat) < 10000 := (i 0).isLt
              omega
  | ⟨1, _⟩ => show 0 * 256 ≤ (i 1 : Nat) ∧ (i 1 : Nat) < 0 * 256 + 256
              have : (i 1 : Nat) < 256 := (i 1).isLt
              omega

/-- After the first layer's call the result array holds the function of the five arrays. -/
theorem arr1_5 (c : Dev nD) : (dat1 V c).arrAt 5 cfg1.N = (k1_pay1 (V c main_v104) (V c main_v105) (V c main_v106) (V c main_v107) (V c main_arg0)) :=
  (dat1 V c).arrAt_eq_of_cover 5 (k1_pay1 (V c main_v104) (V c main_v105) (V c main_v106) (V c main_v107) (V c main_arg0)) (fun t _ => flushed1_5 V c t) tiled1_5

/-! ## The second layer's call -/

/-- The second layer's normalization reads the aggregated rows whole. -/
theorem blk3_0 (c : Dev nD) (t : Fin cfg3.N) : (iblk3 V c 0 t : Vec F S10000x256 .f32) = V c main_v209 := by
  refine funext fun j => congrArg (V c main_v209) (funext fun a => Fin.ext ?_)
  match a with
  | ⟨0, _⟩ => show 0 * 10000 + 1 * (j 0).val = (j 0).val; omega
  | ⟨1, _⟩ => show 0 * 256 + 1 * (j 1).val = (j 1).val; omega

/-- The second layer's normalization reads the bias row whole. -/
theorem blk3_1 (c : Dev nD) (t : Fin cfg3.N) : (iblk3 V c 1 t : Vec F S1x256 .f32) = V c main_v210 := by
  refine funext fun j => congrArg (V c main_v210) (funext fun a => Fin.ext ?_)
  match a with
  | ⟨0, _⟩ => show 0 * 1 + 1 * (j 0).val = (j 0).val; omega
  | ⟨1, _⟩ => show 0 * 256 + 1 * (j 1).val = (j 1).val; omega

/-- The second layer's normalization reads the scale row whole. -/
theorem blk3_2 (c : Dev nD) (t : Fin cfg3.N) : (iblk3 V c 2 t : Vec F S1x256 .f32) = V c main_v211 := by
  refine funext fun j => congrArg (V c main_v211) (funext fun a => Fin.ext ?_)
  match a with
  | ⟨0, _⟩ => show 0 * 1 + 1 * (j 0).val = (j 0).val; omega
  | ⟨1, _⟩ => show 0 * 256 + 1 * (j 1).val = (j 1).val; omega

/-- The second layer's normalization reads the offset row whole. -/
theorem blk3_3 (c : Dev nD) (t : Fin cfg3.N) : (iblk3 V c 3 t : Vec F S1x256 .f32) = V c main_v212 := by
  refine funext fun j => congrArg (V c main_v212) (funext fun a => Fin.ext ?_)
  match a with
  | ⟨0, _⟩ => show 0 * 1 + 1 * (j 0).val = (j 0).val; omega
  | ⟨1, _⟩ => show 0 * 256 + 1 * (j 1).val = (j 1).val; omega

/-- The second layer's normalization reads the residual rows whole. -/
theorem blk3_4 (c : Dev nD) (t : Fin cfg3.N) : (iblk3 V c 4 t : Vec F S10000x256 .f32) = V c main_v108 := by
  refine funext fun j => congrArg (V c main_v108) (funext fun a => Fin.ext ?_)
  match a with
  | ⟨0, _⟩ => show 0 * 10000 + 1 * (j 0).val = (j 0).val; omega
  | ⟨1, _⟩ => show 0 * 256 + 1 * (j 1).val = (j 1).val; omega

/-- What the one point writes back: the whole function. -/
theorem flushed3_5 (c : Dev nD) (t : Fin cfg3.N) :
    (dat3 V c).flushed 5 t = (win3_5.blk t).view.read (Elt F) (k1_pay1 (V c main_v209) (V c main_v210) (V c main_v211) (V c main_v212) (V c main_v108)) := by
  show (cfg3.win 5).cut (grid3.coords t) ((dat3 V c).after 5 t) = _
  rw [after3_5]
  unfold out3_5
  rw [View.canon_unit_zero zeros2]
  repeat rw [View.ld_unit_zero zeros2]
  rw [k3_pay1_eq, blk3_0, blk3_1, blk3_2, blk3_3, blk3_4]
  refine funext fun j => congrArg (k1_pay1 (V c main_v209) (V c main_v210) (V c main_v211) (V c main_v212) (V c main_v108)) (funext fun a => Fin.ext ?_)
  match a with
  | ⟨0, _⟩ => show (j 0).val = 0 * 10000 + 1 * (j 0).val; omega
  | ⟨1, _⟩ => show (j 1).val = 0 * 256 + 1 * (j 1).val; omega

/-- The one block is the whole array. -/
theorem tiled3_5 (i : S10000x256.Idx) :
    ∃ t : Fin cfg3.N, (cfg3.win 5).flush t = true ∧ i ∈ ((cfg3.win 5).blk t).view.set := by
  have hN : cfg3.N = 1 := N_3
  have ht : 0 < cfg3.N := by omega
  refine ⟨⟨0, ht⟩, flush3_5 _, ?_⟩
  show i ∈ ((View.whole main_v213).slice (win3_5.rect ⟨0, ht⟩)).set
  rw [View.set_slice_whole, Rect.mem_set_unit]
  intro a
  match a with
  | ⟨0, _⟩ => show 0 * 10000 ≤ (i 0 : Nat) ∧ (i 0 : Nat) < 0 * 10000 + 10000
              have : (i 0 : Nat) < 10000 := (i 0).isLt
              omega
  | ⟨1, _⟩ => show 0 * 256 ≤ (i 1 : Nat) ∧ (i 1 : Nat) < 0 * 256 + 256
              have : (i 1 : Nat) < 256 := (i 1).isLt
              omega

/-- After the second layer's call the result array holds the function of the five arrays. -/
theorem arr3_5 (c : Dev nD) : (dat3 V c).arrAt 5 cfg3.N = (k1_pay1 (V c main_v209) (V c main_v210) (V c main_v211) (V c main_v212) (V c main_v108)) :=
  (dat3 V c).arrAt_eq_of_cover 5 (k1_pay1 (V c main_v209) (V c main_v210) (V c main_v211) (V c main_v212) (V c main_v108)) (fun t _ => flushed3_5 V c t) tiled3_5

end Cert.KernelIdeal.Val
-- ==== Proof.KernelRun.lean ====
module

public import proofs.«01_k».proof.Proof.Gen.KernelIdeal.Frame

/-! # The kernel's run

The launch of the frame theorem, keeping the result array besides the arguments: every run ends with the result
at the contents of the last boundary of the fold through the program. -/

@[expose] public section

set_option maxRecDepth 16384

noncomputable section

namespace Cert.KernelIdeal.Val

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the kernel terminates with the result array at
    the last boundary's contents, the arguments as launched and every counter at zero. -/
theorem run : θ_run defs (onTc (τ := τ) (main (F := F))) ⟨m, fun _ => 0, ρ⟩ (fun r => (∀ c : Dev nD,
      r.2.mem ((c.tc : Thread nD τ).loc main_v213) = W12 m ρ c (Proc.devRef .tc main_v213)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨(fun c =>
      ⟨h c _ (mem_uc main_v213 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩), funext fun g => hz g (.inr (no_unscoped g.2))⟩)

end Cert.KernelIdeal.Val
-- ==== Proof.KernelValue.lean ====
module

public import proofs.«01_k».proof.Proof.HostReads
public import proofs.«01_k».proof.Proof.Dense
public import proofs.«01_k».proof.Proof.Post
public import proofs.«01_k».proof.Proof.KernelRun

/-! # What the kernel's result array holds

The contents at each boundary read back to the arguments: two layers, each one function of its input rows, the
edge list and its six parameters. -/

@[expose] public section

set_option maxRecDepth 8192

noncomputable section

namespace Cert.KernelIdeal.Val

open Cert.KernelIdeal.Gen

open Idealize.ShloMosaic Idealize.ShloMosaic.TcCoe Idealize.SL.Sem

/-- One layer of the kernel over the extended reals, as a function of whole arrays. -/
def kLayer (x : FVec Ideal S10000x256 .f32) (src dst : IVec S160000 32) (W : FVec Ideal S256x1024 .f32) (aS aD : FVec Ideal S4x256 .f32)
    (b g be : FVec Ideal S256 .f32) : FVec Ideal S10000x256 .f32 :=
  k1_pay1 (edgePhase (denseH x W) src dst (leaky (logits (denseA (denseH x W) (amat aS aD)) src dst))) (row b) (row g) (row be) x

/-- The normalizing body on equal arguments. -/
theorem k1_congr {a a' : FVec Ideal S10000x256 .f32} {b b' g g' be be' : FVec Ideal S1x256 .f32} {x x' : FVec Ideal S10000x256 .f32}
    (ha : a = a') (hb : b = b') (hg : g = g') (hbe : be = be') (hx : x = x') : k1_pay1 (F := Ideal) a b g be x = k1_pay1 (F := Ideal) a' b' g' be' x' := by
  rw [ha, hb, hg, hbe, hx]

variable (m : (ℓ : Loc nD τ sig) → Buf (Elt Ideal) ℓ) (ρ : Dev nD → PrngReg)

/-! ## The first layer -/

/-- The source indices after the first stretch of host code. -/
theorem W1_src (c : Dev nD) : W1 m ρ c (Proc.devRef .tc main_v1) = srcOf (m ((c : Thread nD τ).loc main_arg1)) := ops0_src (W0 m ρ c)
/-- The target indices after the first stretch of host code. -/
theorem W1_dst (c : Dev nD) : W1 m ρ c (Proc.devRef .tc main_v3) = dstOf (m ((c : Thread nD τ).loc main_arg1)) := ops0_dst (W0 m ρ c)

/-- The source indices after the first layer's dense call. -/
theorem W2_src (c : Dev nD) : W2 m ρ c (Proc.devRef .tc main_v1) = srcOf (m ((c : Thread nD τ).loc main_arg1)) :=
  (W2_of m ρ c main_v1 (by decide)).trans (W1_src m ρ c)
/-- The source indices in the first layer's edge phase. -/
theorem W4_src (c : Dev nD) : W4 m ρ c (Proc.devRef .tc main_v1) = srcOf (m ((c : Thread nD τ).loc main_arg1)) :=
  (W4_of m ρ c main_v1 (by decide +kernel)).trans <| (W3_of m ρ c main_v1 (by decide +kernel)).trans (W2_src m ρ c)

/-- The target indices after the first layer's dense call. -/
theorem W2_dst (c : Dev nD) : W2 m ρ c (Proc.devRef .tc main_v3) = dstOf (m ((c : Thread nD τ).loc main_arg1)) :=
  (W2_of m ρ c main_v3 (by decide)).trans (W1_dst m ρ c)
/-- The target indices in the first layer's edge phase. -/
theorem W4_dst (c : Dev nD) : W4 m ρ c (Proc.devRef .tc main_v3) = dstOf (m ((c : Thread nD τ).loc main_arg1)) :=
  (W4_of m ρ c main_v3 (by decide +kernel)).trans <| (W3_of m ρ c main_v3 (by decide +kernel)).trans (W2_dst m ρ c)

/-- The attention matrix after the first stretch of host code. -/
theorem W1_amat (c : Dev nD) : W1 m ρ c (Proc.devRef .tc main_v48) = amat (F := Ideal) (m ((c : Thread nD τ).loc main_arg3)) (m ((c : Thread nD τ).loc main_arg4)) :=
  (ops0_amat (W0 m ρ c)).trans (congrArg₂ (amat (F := Ideal)) (rfl) (rfl))

/-- The projected rows after the first layer's dense call. -/
theorem W2_h (c : Dev nD) : W2 m ρ c (Proc.devRef .tc main_v49_0) = denseH (m ((c : Thread nD τ).loc main_arg0)) (m ((c : Thread nD τ).loc main_arg2)) :=
  (W2_arr m ρ c 3).trans <| (arr0_3 (V1 m ρ) c).trans (congrArg₂ denseH (W1_args m ρ c main_arg0 (by decide +kernel)) (W1_args m ρ c main_arg2 (by decide +kernel)))

/-- The attention products after the first layer's dense call. -/
theorem W2_a (c : Dev nD) : W2 m ρ c (Proc.devRef .tc main_v49_1) = denseA (denseH (m ((c : Thread nD τ).loc main_arg0)) (m ((c : Thread nD τ).loc main_arg2))) (amat (m ((c : Thread nD τ).loc main_arg3)) (m ((c : Thread nD τ).loc main_arg4))) :=
  (W2_arr m ρ c 4).trans <| (arr0_4 (V1 m ρ) c).trans
    (congrArg₂ denseA (congrArg₂ denseH (W1_args m ρ c main_arg0 (by decide +kernel)) (W1_args m ρ c main_arg2 (by decide +kernel))) (W1_amat m ρ c))

/-- The projected rows in the first layer's edge phase. -/
theorem W4_h (c : Dev nD) : W4 m ρ c (Proc.devRef .tc main_v49_0) = denseH (m ((c : Thread nD τ).loc main_arg0)) (m ((c : Thread nD τ).loc main_arg2)) :=
  (W4_of m ρ c main_v49_0 (by decide +kernel)).trans <| (W3_of m ρ c main_v49_0 (by decide +kernel)).trans (W2_h m ρ c)

/-- The edges' scores after the leaky rectifier, in the first layer's edge phase. -/
theorem W4_z (c : Dev nD) : W4 m ρ c (Proc.devRef .tc main_v73)
    = leaky (logits (denseA (denseH (m ((c : Thread nD τ).loc main_arg0)) (m ((c : Thread nD τ).loc main_arg2))) (amat (m ((c : Thread nD τ).loc main_arg3)) (m ((c : Thread nD τ).loc main_arg4)))) (srcOf (m ((c : Thread nD τ).loc main_arg1))) (dstOf (m ((c : Thread nD τ).loc main_arg1)))) := by
  rw [← W2_a m ρ c, ← W2_src m ρ c, ← W2_dst m ρ c]
  exact ops1_leaky (W2 m ρ c)

/-- The aggregated rows before the first layer's normalization. -/
theorem W5_agg (c : Dev nD) : W5 m ρ c (Proc.devRef .tc main_v104)
    = edgePhase (denseH (m ((c : Thread nD τ).loc main_arg0)) (m ((c : Thread nD τ).loc main_arg2))) (srcOf (m ((c : Thread nD τ).loc main_arg1))) (dstOf (m ((c : Thread nD τ).loc main_arg1)))
        (leaky (logits (denseA (denseH (m ((c : Thread nD τ).loc main_arg0)) (m ((c : Thread nD τ).loc main_arg2))) (amat (m ((c : Thread nD τ).loc main_arg3)) (m ((c : Thread nD τ).loc main_arg4)))) (srcOf (m ((c : Thread nD τ).loc main_arg1))) (dstOf (m ((c : Thread nD τ).loc main_arg1))))) := by
  rw [← W4_z m ρ c, ← W4_h m ρ c, ← W4_src m ρ c, ← W4_dst m ρ c]
  exact ops1_2_agg (W4 m ρ c)

/-- The layer's result array. -/
theorem W6_out (c : Dev nD) : W6 m ρ c (Proc.devRef .tc main_v108)
    = kLayer (m ((c : Thread nD τ).loc main_arg0)) (srcOf (m ((c : Thread nD τ).loc main_arg1))) (dstOf (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 5).trans ((arr1_5 (V5 m ρ) c).trans ?_)
  exact k1_congr (W5_agg m ρ c)
    ((ops1_2_bias (W4 m ρ c)).trans (congrArg (row (F := Ideal)) (W4_args m ρ c main_arg5 (by decide +kernel))))
    ((ops1_2_gamma (W4 m ρ c)).trans (congrArg (row (F := Ideal)) (W4_args m ρ c main_arg6 (by decide +kernel))))
    ((ops1_2_beta (W4 m ρ c)).trans (congrArg (row (F := Ideal)) (W4_args m ρ c main_arg7 (by decide +kernel))))
    (W5_args m ρ c main_arg0 (by decide +kernel))

/-! ## The second layer -/

/-- The source indices before the second layer's dense call. -/
theorem W7_src (c : Dev nD) : W7 m ρ c (Proc.devRef .tc main_v1) = srcOf (m ((c : Thread nD τ).loc main_arg1)) :=
  (W7_of m ρ c main_v1 (by decide +kernel)).trans <| (W6_of m ρ c main_v1 (by decide)).trans <| (W5_of m ρ c main_v1 (by decide +kernel)).trans (W4_src m ρ c)

/-- The source indices after the second layer's dense call. -/
theorem W8_src (c : Dev nD) : W8 m ρ c (Proc.devRef .tc main_v1) = srcOf (m ((c : Thread nD τ).loc main_arg1)) :=
  (W8_of m ρ c main_v1 (by decide)).trans (W7_src m ρ c)
/-- The source indices in the second layer's edge phase. -/
theorem W10_src (c : Dev nD) : W10 m ρ c (Proc.devRef .tc main_v1) = srcOf (m ((c : Thread nD τ).loc main_arg1)) :=
  (W10_of m ρ c main_v1 (by decide +kernel)).trans <| (W9_of m ρ c main_v1 (by decide +kernel)).trans (W8_src m ρ c)

/-- The target indices before the second layer's dense call. -/
theorem W7_dst (c : Dev nD) : W7 m ρ c (Proc.devRef .tc main_v3) = dstOf (m ((c : Thread nD τ).loc main_arg1)) :=
  (W7_of m ρ c main_v3 (by decide +kernel)).trans <| (W6_of m ρ c main_v3 (by decide)).trans <| (W5_of m ρ c main_v3 (by decide +kernel)).trans (W4_dst m ρ c)

/-- The target indices after the second layer's dense call. -/
theorem W8_dst (c : Dev nD) : W8 m ρ c (Proc.devRef .tc main_v3) = dstOf (m ((c : Thread nD τ).loc main_arg1)) :=
  (W8_of m ρ c main_v3 (by decide)).trans (W7_dst m ρ c)
/-- The target indices in the second layer's edge phase. -/
theorem W10_dst (c : Dev nD) : W10 m ρ c (Proc.devRef .tc main_v3) = dstOf (m ((c : Thread nD τ).loc main_arg1)) :=
  (W10_of m ρ c main_v3 (by decide +kernel)).trans <| (W9_of m ρ c main_v3 (by decide +kernel)).trans (W8_dst m ρ c)

/-- The first layer's result before the second layer's dense call. -/
theorem W7_x (c : Dev nD) : W7 m ρ c (Proc.devRef .tc main_v108) = W6 m ρ c (Proc.devRef .tc main_v108) :=
  W7_of m ρ c main_v108 (by decide +kernel)
/-- The first layer's result before the second layer's normalization. -/
theorem W11_x (c : Dev nD) : W11 m ρ c (Proc.devRef .tc main_v108) = W6 m ρ c (Proc.devRef .tc main_v108) :=
  (W11_of m ρ c main_v108 (by decide +kernel)).trans <| (W10_of m ρ c main_v108 (by decide +kernel)).trans <|
    (W9_of m ρ c main_v108 (by decide +kernel)).trans <| (W8_of m ρ c main_v108 (by decide)).trans (W7_x m ρ c)

/-- The attention matrix before the second layer's dense call. -/
theorem W7_amat (c : Dev nD) : W7 m ρ c (Proc.devRef .tc main_v153) = amat (F := Ideal) (m ((c : Thread nD τ).loc main_arg9)) (m ((c : Thread nD τ).loc main_arg10)) :=
  (ops2_amat (W6 m ρ c)).trans (congrArg₂ (amat (F := Ideal)) (W6_args m ρ c main_arg9 (by decide +kernel)) (W6_args m ρ c main_arg10 (by decide +kernel)))

/-- The projected rows after the second layer's dense call. -/
theorem W8_h (c : Dev nD) : W8 m ρ c (Proc.devRef .tc main_v154_0) = denseH (W6 m ρ c (Proc.devRef .tc main_v108)) (m ((c : Thread nD τ).loc main_arg8)) :=
  (W8_arr m ρ c 3).trans <| (arr2_3 (V7 m ρ) c).trans (congrArg₂ denseH (W7_x m ρ c) (W7_args m ρ c main_arg8 (by decide +kernel)))

/-- The attention products after the second layer's dense call. -/
theorem W8_a (c : Dev nD) : W8 m ρ c (Proc.devRef .tc main_v154_1) = denseA (denseH (W6 m ρ c (Proc.devRef .tc main_v108)) (m ((c : Thread nD τ).loc main_arg8))) (amat (m ((c : Thread nD τ).loc main_arg9)) (m ((c : Thread nD τ).loc main_arg10))) :=
  (W8_arr m ρ c 4).trans <| (arr2_4 (V7 m ρ) c).trans
    (congrArg₂ denseA (congrArg₂ denseH (W7_x m ρ c) (W7_args m ρ c main_arg8 (by decide +kernel))) (W7_amat m ρ c))

/-- The projected rows in the second layer's edge phase. -/
theorem W10_h (c : Dev nD) : W10 m ρ c (Proc.devRef .tc main_v154_0) = denseH (W6 m ρ c (Proc.devRef .tc main_v108)) (m ((c : Thread nD τ).loc main_arg8)) :=
  (W10_of m ρ c main_v154_0 (by decide +kernel)).trans <| (W9_of m ρ c main_v154_0 (by decide +kernel)).trans (W8_h m ρ c)

/-- The edges' scores after the leaky rectifier, in the second layer's edge phase. -/
theorem W10_z (c : Dev nD) : W10 m ρ c (Proc.devRef .tc main_v178)
    = leaky (logits (denseA (denseH (W6 m ρ c (Proc.devRef .tc main_v108)) (m ((c : Thread nD τ).loc main_arg8))) (amat (m ((c : Thread nD τ).loc main_arg9)) (m ((c : Thread nD τ).loc main_arg10)))) (srcOf (m ((c : Thread nD τ).loc main_arg1))) (dstOf (m ((c : Thread nD τ).loc main_arg1)))) := by
  rw [← W8_a m ρ c, ← W8_src m ρ c, ← W8_dst m ρ c]
  exact ops3_leaky (W8 m ρ c)

/-- The aggregated rows before the second layer's normalization. -/
theorem W11_agg (c : Dev nD) : W11 m ρ c (Proc.devRef .tc main_v209)
    = edgePhase (denseH (W6 m ρ c (Proc.devRef .tc main_v108)) (m ((c : Thread nD τ).loc main_arg8))) (srcOf (m ((c : Thread nD τ).loc main_arg1))) (dstOf (m ((c : Thread nD τ).loc main_arg1)))
        (leaky (logits (denseA (denseH (W6 m ρ c (Proc.devRef .tc main_v108)) (m ((c : Thread nD τ).loc main_arg8))) (amat (m ((c : Thread nD τ).loc main_arg9)) (m ((c : Thread nD τ).loc main_arg10)))) (srcOf (m ((c : Thread nD τ).loc main_arg1))) (dstOf (m ((c : Thread nD τ).loc main_arg1))))) := by
  rw [← W10_z m ρ c, ← W10_h m ρ c, ← W10_src m ρ c, ← W10_dst m ρ c]
  exact ops3_2_agg (W10 m ρ c)

/-- The layer's result array. -/
theorem W12_out (c : Dev nD) : W12 m ρ c (Proc.devRef .tc main_v213)
    = kLayer (W6 m ρ c (Proc.devRef .tc main_v108)) (srcOf (m ((c : Thread nD τ).loc main_arg1))) (dstOf (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W12_arr m ρ c 5).trans ((arr3_5 (V11 m ρ) c).trans ?_)
  exact k1_congr (W11_agg m ρ c)
    ((ops3_2_bias (W10 m ρ c)).trans (congrArg (row (F := Ideal)) (W10_args m ρ c main_arg11 (by decide +kernel))))
    ((ops3_2_gamma (W10 m ρ c)).trans (congrArg (row (F := Ideal)) (W10_args m ρ c main_arg12 (by decide +kernel))))
    ((ops3_2_beta (W10 m ρ c)).trans (congrArg (row (F := Ideal)) (W10_args m ρ c main_arg13 (by decide +kernel))))
    (W11_x m ρ c)

/-- The kernel's result: the second layer of the first. -/
theorem result (c : Dev nD) : W12 m ρ c (Proc.devRef .tc main_v213)
    = kLayer (kLayer (m ((c : Thread nD τ).loc main_arg0)) (srcOf (m ((c : Thread nD τ).loc main_arg1))) (dstOf (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
        (srcOf (m ((c : Thread nD τ).loc main_arg1))) (dstOf (m ((c : Thread nD τ).loc main_arg1))) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W12_out m ρ c, W6_out m ρ c]

end Cert.KernelIdeal.Val
-- ==== Proof.Equation.lean ====
module

public import proofs.«01_k».proof.Proof.Logits
public import proofs.«01_k».proof.Proof.Attention
public import proofs.«01_k».proof.Proof.Norm
public import proofs.«01_k».proof.Proof.KernelValue

/-! # One layer of the kernel is one layer of the reference

Over the extended reals the two layers are equal on every input: the products, the logits, the edge phases and the
normalizations agree in turn. -/

@[expose] public section

noncomputable section

namespace Cert.Equation

open Cert.KernelIdeal Cert.KernelIdeal.Gen Cert.KernelIdeal.Val
open Cert.ReferenceIdeal (Ref.rLayer Ref.heads Ref.logits Ref.leaky Ref.segMax Ref.orZero Ref.attn Ref.aggregate Ref.rows Ref.norm)
open Idealize.ShloMosaic

/-- Both programs apply the same leaky rectifier. -/
theorem refLeaky (z : FVec Ideal S160000x4 .f32) : Ref.leaky z = leaky z := rfl

/-- The layers are equal. -/
theorem layer_eq (x : FVec Ideal S10000x256 .f32) (src dst : IVec S160000 32) (W : FVec Ideal S256x1024 .f32) (aS aD : FVec Ideal S4x256 .f32)
    (b g be : FVec Ideal S256 .f32) : kLayer x src dst W aS aD b g be = Ref.rLayer x src dst W aS aD b g be := by
  unfold kLayer Ref.rLayer
  dsimp only
  rw [norm_eq, logits_eq, ← heads_eq, ← edgePhase_eq _ _ _ _ (Ref.segMax dst (Ref.leaky (Ref.logits (heads (denseH x W)) aS aD src dst))), refLeaky]

/-- Both programs read the edges' source nodes the same way. -/
theorem refSrcOf (e : IVec S2x160000 32) : Cert.ReferenceIdeal.Ref.srcOf e = srcOf e := rfl

/-- Both programs read the edges' target nodes the same way. -/
theorem refDstOf (e : IVec S2x160000 32) : Cert.ReferenceIdeal.Ref.dstOf e = dstOf e := rfl

/-- The two layers are equal on equal arguments. -/
theorem layers_eq {x x' : FVec Ideal S10000x256 .f32} {e e' : IVec S2x160000 32} {W W' : FVec Ideal S256x1024 .f32} {aS aS' : FVec Ideal S4x256 .f32} {aD aD' : FVec Ideal S4x256 .f32} {b b' : FVec Ideal S256 .f32} {g g' : FVec Ideal S256 .f32} {be be' : FVec Ideal S256 .f32} {V V' : FVec Ideal S256x1024 .f32} {cS cS' : FVec Ideal S4x256 .f32} {cD cD' : FVec Ideal S4x256 .f32} {d d' : FVec Ideal S256 .f32} {γ γ' : FVec Ideal S256 .f32} {β β' : FVec Ideal S256 .f32}
    (h0 : x' = x) (h1 : e' = e) (h2 : W' = W) (h3 : aS' = aS) (h4 : aD' = aD) (h5 : b' = b) (h6 : g' = g) (h7 : be' = be) (h8 : V' = V) (h9 : cS' = cS) (h10 : cD' = cD) (h11 : d' = d) (h12 : γ' = γ) (h13 : β' = β) :
    Ref.rLayer (Ref.rLayer x' (Cert.ReferenceIdeal.Ref.srcOf e') (Cert.ReferenceIdeal.Ref.dstOf e') W' aS' aD' b' g' be')
        (Cert.ReferenceIdeal.Ref.srcOf e') (Cert.ReferenceIdeal.Ref.dstOf e') V' cS' cD' d' γ' β'
      = kLayer (kLayer x (srcOf e) (dstOf e) W aS aD b g be) (srcOf e) (dstOf e) V cS cD d γ β := by
  rw [layer_eq, layer_eq, h0, h1, h2, h3, h4, h5, h6, h7, h8, h9, h10, h11, h12, h13, refSrcOf, refDstOf]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.KernelRun
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The idealized kernel runs, leaving its arguments as they were and every semaphore counter at zero. -/
theorem quiescent : Cert.quiescent_KernelIdeal (hKernelIdeal := Cert.KernelIdeal.Gen.facts) :=
  fun m ρ _ => Cert.KernelIdeal.Gen.frame m ρ

/-- The reference runs, leaving its arguments; it uses no semaphore. -/
theorem quiescentReference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference, started on equal arguments, end with equal results. -/
theorem value : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Gen.W12 m g c (Proc.devRef .tc Cert.KernelIdeal.main_v213), ?_, ?_⟩
  · exact (θ_run Cert.KernelIdeal.defs _ _).mono (fun r h => h.1) (Cert.KernelIdeal.Val.run m g)
  · refine (θ_run Cert.ReferenceIdeal.defs _ _).mono (fun r h c => ⟨(h c).1.trans ?_, (h c).2⟩) (Cert.ReferenceIdeal.Ref.run (F := Ideal) m' g')
    obtain ⟨h0, h1, h2, h3, h4, h5, h6, h7, h8, h9, h10, h11, h12, h13⟩ := hagree c
    exact (Cert.Equation.layers_eq h0 h1 h2 h3 h4 h5 h6 h7 h8 h9 h10 h11 h12 h13).trans (Cert.KernelIdeal.Val.result m g c).symm

/-- The claims. -/
theorem claim : Cert.Claim := ⟨Cert.Kernel.Gen.facts, Cert.KernelIdeal.Gen.facts, Cert.ReferenceIdeal.Gen.facts,
  fun m ρ _ => Cert.Kernel.Gen.frame m ρ, quiescent, quiescentReference, trivial, value⟩

end Cert.Proof

end
